-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S2x256 : Shape := ⟨2, ![2, 256]⟩
abbrev S_ : Shape := ⟨0, ![]⟩
abbrev S4x2x256 : Shape := ⟨3, ![4, 2, 256]⟩
abbrev S3 : Shape := ⟨1, ![3]⟩
abbrev S256 : Shape := ⟨1, ![256]⟩
abbrev S1x256 : Shape := ⟨2, ![1, 256]⟩
abbrev S1 : Shape := ⟨1, ![1]⟩
abbrev S1x2x256 : Shape := ⟨3, ![1, 2, 256]⟩
abbrev S1x1x256 : Shape := ⟨3, ![1, 1, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S2x256, .f32⟩
  | .local _ .vmem, ⟨0, _⟩ => ⟨S2x256, .f32⟩
  | .local _ .vmem, ⟨1, _⟩ => ⟨S256x256, .f32⟩
  | .local _ .vmem, ⟨2, _⟩ => ⟨S2x256, .f32⟩
  | .local _ .vmem, ⟨3, _⟩ => ⟨S4x2x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch2 : Ref sig .tc := ⟨.vmem, 2, rfl⟩
abbrev cc0_scratch3 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v64 : BitVec 32 := Scalar.subi v2 c1_i32_34
  let c4_i32_35 : BitVec 32 := 4#32
  let c0_i32_36 : BitVec 32 := 0#32
  let v65 : BitVec 1 := Scalar.cmpi .eq c4_i32_35 c0_i32_36
  let c1_i32_37 : BitVec 32 := 1#32
  let v66 : BitVec 32 := Scalar.select v65 c1_i32_37 c4_i32_35
  let v67 : BitVec 32 := Scalar.remsi v64 v66
  let c0_i32_39 : BitVec 32 := 0#32
  let v69 : BitVec 1 := Scalar.cmpi .slt v67 c0_i32_39
  let c0_i32_40 : BitVec 32 := 0#32
  let v70 : BitVec 1 := Scalar.cmpi .slt v66 c0_i32_40
  let v71 : BitVec 1 := Scalar.xori v69 v70
  let c0_i32_38 : BitVec 32 := 0#32
  let v68 : BitVec 1 := Scalar.cmpi .ne v67 c0_i32_38
  let v72 : BitVec 1 := Scalar.andi v71 v68
  let v73 : BitVec 32 := Scalar.addi v67 v66
  let v74 : BitVec 32 := Scalar.select v72 v73 v67
  let c1_i32_44 : BitVec 32 := 1#32
  let v75 : BitVec 32 := Scalar.muli v74 c1_i32_44
  let v76 : BitVec 32 := Scalar.addi c0_i32_45 v75
  v76.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_48 : BitVec 32 := 2#32
  let v83 : BitVec 32 := Scalar.subi v2 c2_i32_48
  let c4_i32_49 : BitVec 32 := 4#32
  let c0_i32_50 : BitVec 32 := 0#32
  let v84 : BitVec 1 := Scalar.cmpi .eq c4_i32_49 c0_i32_50
  let c1_i32_51 : BitVec 32 := 1#32
  let v85 : BitVec 32 := Scalar.select v84 c1_i32_51 c4_i32_49
  let v86 : BitVec 32 := Scalar.remsi v83 v85
  let c0_i32_53 : BitVec 32 := 0#32
  let v88 : BitVec 1 := Scalar.cmpi .slt v86 c0_i32_53
  let c0_i32_54 : BitVec 32 := 0#32
  let v89 : BitVec 1 := Scalar.cmpi .slt v85 c0_i32_54
  let v90 : BitVec 1 := Scalar.xori v88 v89
  let c0_i32_52 : BitVec 32 := 0#32
  let v87 : BitVec 1 := Scalar.cmpi .ne v86 c0_i32_52
  let v91 : BitVec 1 := Scalar.andi v90 v87
  let v92 : BitVec 32 := Scalar.addi v86 v85
  let v93 : BitVec 32 := Scalar.select v91 v92 v86
  let c1_i32_58 : BitVec 32 := 1#32
  let v94 : BitVec 32 := Scalar.muli v93 c1_i32_58
  let v95 : BitVec 32 := Scalar.addi c0_i32_59 v94
  v95.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_62 : BitVec 32 := 3#32
  let v102 : BitVec 32 := Scalar.subi v2 c3_i32_62
  let c4_i32_63 : BitVec 32 := 4#32
  let c0_i32_64 : BitVec 32 := 0#32
  let v103 : BitVec 1 := Scalar.cmpi .eq c4_i32_63 c0_i32_64
  let c1_i32_65 : BitVec 32 := 1#32
  let v104 : BitVec 32 := Scalar.select v103 c1_i32_65 c4_i32_63
  let v105 : BitVec 32 := Scalar.remsi v102 v104
  let c0_i32_67 : BitVec 32 := 0#32
  let v107 : BitVec 1 := Scalar.cmpi .slt v105 c0_i32_67
  let c0_i32_68 : BitVec 32 := 0#32
  let v108 : BitVec 1 := Scalar.cmpi .slt v104 c0_i32_68
  let v109 : BitVec 1 := Scalar.xori v107 v108
  let c0_i32_66 : BitVec 32 := 0#32
  let v106 : BitVec 1 := Scalar.cmpi .ne v105 c0_i32_66
  let v110 : BitVec 1 := Scalar.andi v109 v106
  let v111 : BitVec 32 := Scalar.addi v105 v104
  let v112 : BitVec 32 := Scalar.select v110 v111 v105
  let c1_i32_72 : BitVec 32 := 1#32
  let v113 : BitVec 32 := Scalar.muli v112 c1_i32_72
  let v114 : BitVec 32 := Scalar.addi c0_i32_73 v113
  v114.toNat
abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x256 : Shape := ⟨2, ![1024, 256]⟩
abbrev S_ : Shape := ⟨0, ![]⟩
abbrev S256 : Shape := ⟨1, ![256]⟩
abbrev S1x256 : Shape := ⟨2, ![1, 256]⟩
abbrev S2x256 : Shape := ⟨2, ![2, 256]⟩

abbrev nBuf : Space → Nat
  | .hbm => 12
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .i32⟩
  | .hbm, ⟨2, _⟩ => ⟨S_, .f32⟩
  | .hbm, ⟨3, _⟩ => ⟨S_, .i32⟩
  | .hbm, ⟨4, _⟩ => ⟨S256, .f32⟩
  | .hbm, ⟨5, _⟩ => ⟨S256, .i32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S1x256, .f32⟩
  | .hbm, ⟨11, _⟩ => ⟨S2x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Views.lean ====
/-
The kernel's buffers and cells by name, and where the pieces of the comm buffer sit.

A device `c` of the ring of four has a stage buffer of two rows (row 0 the column maxima of its block, row 1 the
columns' first maximal row as a number) and a comm buffer of four such slots. Slot `r + 1` of device `c` receives the
stage of device `c + r + 1`; slot 0 is never used. Throughout, a distance is named by `r : Fin 3`, standing for `r + 1`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdx
public import Idealize.ShloMosaic.Lib.ValueIdxCoords
public import Idealize.ShloMosaic.Lib.ValueLayout

@[expose] public section

set_option maxRecDepth 16384

noncomputable section

namespace Cert.RingArgmax

open Cert.KernelIdeal Cert.KernelIdeal.Gen
open Idealize.ShloMosaic Idealize.ShloMosaic.TcCoe Idealize.ShloMosaic.ValueIdx

/-! ## Around the ring -/

/-- The device `r + 1` places after `c`. -/
def up (r : Fin 3) (c : Dev nD) : Dev nD := ⟨(c.val + (r.val + 1)) % 4, Nat.mod_lt _ (by decide)⟩
/-- The device `r + 1` places before `c`. -/
def dn (r : Fin 3) (c : Dev nD) : Dev nD := ⟨(c.val + (3 - r.val)) % 4, Nat.mod_lt _ (by decide)⟩

theorem dn_up (r : Fin 3) (c : Dev nD) : dn r (up r c) = c := by revert r c; decide
theorem up_dn (r : Fin 3) (c : Dev nD) : up r (dn r c) = c := by revert r c; decide

/-- Going `r + 1` places on, as a permutation of the devices. -/
def turn (r : Fin 3) : Dev nD ≃ Dev nD := ⟨up r, dn r, dn_up r, up_dn r⟩

/-- The devices the kernel's three signals and three transfers address. -/
theorem dev1_eq (c : Dev nD) : (⟨k0_dev1 c, k0_dev1_lt c⟩ : Dev nD) = up 0 c := by revert c; decide +kernel
theorem dev2_eq (c : Dev nD) : (⟨k0_dev2 c, k0_dev2_lt c⟩ : Dev nD) = up 1 c := by revert c; decide +kernel
theorem dev3_eq (c : Dev nD) : (⟨k0_dev3 c, k0_dev3_lt c⟩ : Dev nD) = up 2 c := by revert c; decide +kernel
theorem dev4_eq (c : Dev nD) : (⟨k0_dev4 c, k0_dev4_lt c⟩ : Dev nD) = dn 0 c := by revert c; decide +kernel
theorem dev5_eq (c : Dev nD) : (⟨k0_dev5 c, k0_dev5_lt c⟩ : Dev nD) = dn 1 c := by revert c; decide +kernel
theorem dev6_eq (c : Dev nD) : (⟨k0_dev6 c, k0_dev6_lt c⟩ : Dev nD) = dn 2 c := by revert c; decide +kernel

/-! ## The buffers -/

abbrev xM : Memref sig .tc .hbm S256x256 .f32 := Memref.whole main_arg0
abbrev oM : Memref sig .tc .vmem S2x256 .f32 := Memref.whole cc0_stg0_0
abbrev vM : Memref sig .tc .vmem S256x256 .f32 := Memref.whole cc0_scratch0
abbrev sM : Memref sig .tc .vmem S2x256 .f32 := Memref.whole cc0_scratch2
abbrev cM : Memref sig .tc .vmem S4x2x256 .f32 := Memref.whole cc0_scratch3

theorem slot_inb (r : Fin 3) : ∀ a, (![r.val + 1, 0, 0] : Fin 3 → Nat) a + S1x2x256.size a ≤ S4x2x256.size a := by
  revert r; decide

/-- The rectangle of the comm buffer's slot `r + 1`. -/
abbrev slotR (r : Fin 3) : Rect S4x2x256 := Rect.unit (s := S4x2x256) ![r.val + 1, 0, 0] S1x2x256.size (slot_inb r)

/-- The comm buffer's slot `r + 1`, as the kernel writes it. -/
abbrev slot (r : Fin 3) : Memref sig .tc .vmem S2x256 .f32 :=
  (cM.slice (slotR r) (fun _ => rfl)).squeeze S2x256 squeezes_S1x2x256_S2x256

/-! ## The cells -/

/-- The barrier semaphore. -/
abbrev barS : Sem sig := (SemArray.scalar (sig.barrier 0 rfl) : Sems sig S_).sem
/-- The semaphore the local copy completes on. -/
abbrev copyS : DmaSem sig := cc0_scratch1.sem
/-- The three send semaphores. -/
abbrev sendS : Fin 3 → DmaSem sig
  | 0 => ((cc0_scratch4.slice (Rect.unit (s := S3) ![0] S1.size inb_S3_S1_0)).squeeze S_ squeezes_S1_S_).sem
  | 1 => ((cc0_scratch4.slice (Rect.unit (s := S3) ![1] S1.size inb_S3_S1_1)).squeeze S_ squeezes_S1_S_).sem
  | 2 => ((cc0_scratch4.slice (Rect.unit (s := S3) ![2] S1.size inb_S3_S1_2)).squeeze S_ squeezes_S1_S_).sem
/-- The three receive semaphores. -/
abbrev recvS : Fin 3 → DmaSem sig
  | 0 => ((cc0_scratch5.slice (Rect.unit (s := S3) ![0] S1.size inb_S3_S1_0)).squeeze S_ squeezes_S1_S_).sem
  | 1 => ((cc0_scratch5.slice (Rect.unit (s := S3) ![1] S1.size inb_S3_S1_1)).squeeze S_ squeezes_S1_S_).sem
  | 2 => ((cc0_scratch5.slice (Rect.unit (s := S3) ![2] S1.size inb_S3_S1_2)).squeeze S_ squeezes_S1_S_).sem

theorem sendS_val (r : Fin 3) : (sendS r).val = 2 + r.val := by revert r; decide
theorem recvS_val (r : Fin 3) : (recvS r).val = 5 + r.val := by revert r; decide
theorem copyS_val : (copyS : DmaSem sig).val = 1 := by decide

abbrev barCell (c : Dev nD) : GSem nD τ sig := ((c : Thread nD τ), .reg barS)
abbrev copyCell (c : Dev nD) : GSem nD τ sig := ((c : Thread nD τ), .dma copyS)
abbrev sendCell (r : Fin 3) (c : Dev nD) : GSem nD τ sig := ((c : Thread nD τ), .dma (sendS r))
abbrev recvCell (r : Fin 3) (c : Dev nD) : GSem nD τ sig := ((c : Thread nD τ), .dma (recvS r))

/-- What a transfer of a stage credits, on either end. -/
abbrev N : ℕ := (sM : Memref sig .tc .vmem S2x256 .f32).view.dmaCredit
theorem N_pos : 0 < N := View.dmaCredit_pos _ (by decide)
/-- What the local copy credits. -/
abbrev Ncopy : ℕ := (vM : Memref sig .tc .vmem S256x256 .f32).view.dmaCredit
theorem Ncopy_pos : 0 < Ncopy := View.dmaCredit_pos _ (by decide)

theorem slot_credit (r : Fin 3) : (slot r).view.dmaCredit = N := rfl

/-! ## Where a slot sits -/

/-- Row `a`, column `b` of slot `r + 1` is element `(r + 1, a, b)` of the comm buffer. -/
theorem slot_emb (r : Fin 3) (a : Fin 2) (b : Fin 256) :
    (slot r).view.emb (ix2 a b) = (ix3 (⟨r.val + 1, by omega⟩ : Fin 4) a b : S4x2x256.Idx) := by
  show (slotR r).emb (Shape.reshapeEquiv _ (ix2 a b)) = _
  rw [reshapeEquiv_ix2_1ab]
  funext d
  apply Fin.ext
  rw [Rect.emb_apply]
  match d with
  | ⟨0, _⟩ => rfl
  | ⟨1, _⟩ => show 0 + 1 * a.val = a.val; omega
  | ⟨2, _⟩ => show 0 + 1 * b.val = b.val; omega

/-- The elements under slot `r + 1`: its rectangle's. -/
theorem slot_set (r : Fin 3) : (slot r).view.set = (slotR r).set := by
  show (((View.whole cc0_scratch3).slice (slotR r)).reshape S2x256 _).set = _
  rw [View.set_reshape, View.set_slice_whole]

theorem slot_disjoint {r r' : Fin 3} (h : r ≠ r') : Disjoint (slot r).view.set (slot r').view.set := by
  rw [slot_set, slot_set]
  refine Rect.unit_disjoint 0 ?_
  show r.val + 1 + 1 ≤ r'.val + 1 ∨ r'.val + 1 + 1 ≤ r.val + 1
  have : r.val ≠ r'.val := fun e => h (Fin.ext e)
  omega

/-- A row of a slot, as a rectangle of the comm buffer, lies in the slot. -/
theorem row_in_slot (r : Fin 3) (a : Nat) (inb : ∀ d, (![r.val + 1, a, 0] : Fin 3 → Nat) d + S1x1x256.size d ≤ S4x2x256.size d) :
    cM.view.setOn (Rect.unit (s := S4x2x256) ![r.val + 1, a, 0] S1x1x256.size inb).toLoadRect.set ⊆ (slot r).view.set := by
  intro i hi
  rw [slot_set, Rect.mem_set_unit]
  obtain ⟨j, hj, rfl⟩ := Finset.mem_map.mp hi
  have hj' := Rect.mem_set_unit.mp hj
  intro d
  have h2 : (j d : Nat) < S4x2x256.size d := (j d).isLt
  have := hj' d
  show _ ≤ (j d : Nat) ∧ (j d : Nat) < _
  match d with
  | ⟨0, _⟩ => exact this
  | ⟨1, _⟩ => exact ⟨Nat.zero_le _, h2⟩
  | ⟨2, _⟩ => exact this

/-! ## A two-row buffer written row by row -/

abbrev row0 : Rect S2x256 := Rect.unit (s := S2x256) ![0, 0] S1x256.size inb_S2x256_S1x256_0_0
abbrev row1 : Rect S2x256 := Rect.unit (s := S2x256) ![1, 0] S1x256.size inb_S2x256_S1x256_1_0

/-- The contents whose row 0 is `u` and whose row 1 is `w`. -/
def rows {α : Type} (u w : S1x256.Idx → α) : S2x256.Idx → α :=
  fun i => if (i 0).val = 0 then u (ix2 (0 : Fin 1) (i 1)) else w (ix2 (0 : Fin 1) (i 1))

theorem row0_emb (b : Fin 256) : row0.emb (ix2 (0 : Fin 1) b) = (ix2 (0 : Fin 2) b : S2x256.Idx) := by
  funext d
  apply Fin.ext
  rw [Rect.emb_apply]
  match d with
  | ⟨0, _⟩ => rfl
  | ⟨1, _⟩ => show 0 + 1 * b.val = b.val; omega
theorem row1_emb (b : Fin 256) : row1.emb (ix2 (0 : Fin 1) b) = (ix2 (1 : Fin 2) b : S2x256.Idx) := by
  funext d
  apply Fin.ext
  rw [Rect.emb_apply]
  match d with
  | ⟨0, _⟩ => rfl
  | ⟨1, _⟩ => show 0 + 1 * b.val = b.val; omega
theorem not_mem_row1 (b : Fin 256) : (ix2 (0 : Fin 2) b : S2x256.Idx) ∉ row1.set := fun h => by
  have : (1 : Nat) ≤ 0 := (Rect.mem_set_unit.mp h 0).1
  omega

variable {F : FTy → Type} [FloatOps F]

omit [FloatOps F] in
/-- The stage buffer after its two row stores, whatever it held. -/
theorem write_stage (g : cc0_scratch2.ty.Contents (Elt F)) (u w : S1x256.Idx → Elt F .f32) :
    (sM.access row1 : View sig .tc _ _ _).write (Elt F) ((sM.access row0 : View sig .tc _ _ _).write (Elt F) g u Finset.univ) w Finset.univ
      = (rows u w : cc0_scratch2.ty.Contents (Elt F)) := by
  funext i
  obtain ⟨a, b, rfl⟩ : ∃ (a : Fin 2) (b : Fin 256), i = ix2 a b := ⟨i 0, i 1, eq_ix2 i⟩
  match a with
  | 0 =>
    rw [View.write_of_not_mem _ _ _ (by rw [View.setOn_univ]; erw [View.set_slice_whole]; exact not_mem_row1 b)]
    have h := View.write_emb_of_mem (v := (sM.access row0 : View sig .tc _ _ _)) (Val := Elt F) g u (M := Finset.univ) (x := ix2 0 b) (Finset.mem_univ _)
    rw [show (sM.access row0 : View sig .tc _ _ _).emb (ix2 (0 : Fin 1) b) = ix2 (0 : Fin 2) b from row0_emb b] at h
    exact h
  | 1 =>
    have h := View.write_emb_of_mem (v := (sM.access row1 : View sig .tc _ _ _)) (Val := Elt F)
      ((sM.access row0 : View sig .tc _ _ _).write (Elt F) g u Finset.univ) w (M := Finset.univ) (x := ix2 0 b) (Finset.mem_univ _)
    rw [show (sM.access row1 : View sig .tc _ _ _).emb (ix2 (0 : Fin 1) b) = ix2 (1 : Fin 2) b from row1_emb b] at h
    exact h

omit [FloatOps F] in
/-- The result's staging buffer after its two row stores, whatever it held. -/
theorem write_out (g : cc0_stg0_0.ty.Contents (Elt F)) (u w : S1x256.Idx → Elt F .f32) :
    (oM.access row1 : View sig .tc _ _ _).write (Elt F) ((oM.access row0 : View sig .tc _ _ _).write (Elt F) g u Finset.univ) w Finset.univ
      = (rows u w : cc0_stg0_0.ty.Contents (Elt F)) := write_stage g u w

end Cert.RingArgmax
-- ==== Proof.Protocol.lean ====
/-
What the buffers hold and how the four devices synchronise.

Every device copies its block in, reduces it to its stage, sends the stage to the three others and folds the three it
receives into its own. A device first tells each other device, through that device's barrier, that its comm slot may be
written: signal `r` of device `d` goes to `up r d` and carries the ownership of slot `r + 1` of `d`, the slot in which
`d` receives the stage of `up r d`. So the barrier of `c` is a cell with three duties, the others each have one.
-/
module

public import proofs.«01_k».proof.Proof.Views

@[expose] public section

set_option maxRecDepth 16384

noncomputable section

namespace Cert.RingArgmax

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## Contents -/

/-- Device `c`'s block of the argument. -/
def xF (c : Dev nD) : S256x256.Idx → Elt F .f32 := m ((c : Thread nD τ).loc main_arg0)

/-- Device `c`'s place in the ring, as the kernel computes it. -/
abbrev place (c : Dev nD) : BitVec 32 := Scalar.remsi (Scalar.divsi (Dev.word c) 1#32) 4#32

/-- Device `c`'s stage: its columns' maxima, and the rows where they are first attained. -/
def stageF (c : Dev nD) : S2x256.Idx → Elt F .f32 := rows (k0_pay6 (xF m c)) (k0_pay7 (place c) (xF m c))

/-- Device `c`'s comm buffer once everything has landed: slot `k` the stage of device `c + k`. -/
def commF (c : Dev nD) : S4x2x256.Idx → Elt F .f32 :=
  fun i => stageF m ⟨(c.val + (i 0).val) % 4, Nat.mod_lt _ (by decide)⟩ (ix2 (i 1) (i 2))

/-- A row of the stage, as the kernel loads it. -/
abbrev stageRow (c : Dev nD) (R : Rect S2x256) : R.toLoadRect.shape.Idx → Elt F .f32 :=
  sM.view.readAt (Elt F) R.toLoadRect (stageF m c)
/-- A row of a comm slot, as the kernel loads it. -/
abbrev commRow (c : Dev nD) (R : Rect S4x2x256) : R.toLoadRect.shape.Idx → Elt F .f32 :=
  cM.view.readAt (Elt F) R.toLoadRect (commF m c)

abbrev c10 : Rect S4x2x256 := Rect.unit (s := S4x2x256) ![1, 0, 0] S1x1x256.size inb_S4x2x256_S1x1x256_1_0_0
abbrev c11 : Rect S4x2x256 := Rect.unit (s := S4x2x256) ![1, 1, 0] S1x1x256.size inb_S4x2x256_S1x1x256_1_1_0
abbrev c20 : Rect S4x2x256 := Rect.unit (s := S4x2x256) ![2, 0, 0] S1x1x256.size inb_S4x2x256_S1x1x256_2_0_0
abbrev c21 : Rect S4x2x256 := Rect.unit (s := S4x2x256) ![2, 1, 0] S1x1x256.size inb_S4x2x256_S1x1x256_2_1_0
abbrev c30 : Rect S4x2x256 := Rect.unit (s := S4x2x256) ![3, 0, 0] S1x1x256.size inb_S4x2x256_S1x1x256_3_0_0
abbrev c31 : Rect S4x2x256 := Rect.unit (s := S4x2x256) ![3, 1, 0] S1x1x256.size inb_S4x2x256_S1x1x256_3_1_0

/-- The running maxima and rows after the first two slots, as the kernel binds them. -/
abbrev runMax (c : Dev nD) : S1x256.Idx → Elt F .f32 :=
  k0_pay16 (stageRow m c row0) (stageRow m c row1) (commRow m c c10) (commRow m c c11) (commRow m c c20) (commRow m c c21)
abbrev runRow (c : Dev nD) : S1x256.Idx → Elt F .f32 :=
  k0_pay17 (stageRow m c row0) (stageRow m c row1) (commRow m c c10) (commRow m c c11) (commRow m c c20) (commRow m c c21)

/-- Device `c`'s result: the fold of the four stages. -/
def outF (c : Dev nD) : S2x256.Idx → Elt F .f32 :=
  rows (k0_pay3 (runMax m c) (runRow m c) (k0_pay18 (commRow m c c30)) (commRow m c c31))
    (k0_pay4 (runMax m c) (runRow m c) (k0_pay18 (commRow m c c30)) (commRow m c c31))

theorem commF_slot (r : Fin 3) (c : Dev nD) (a : Fin 2) (b : Fin 256) :
    commF m c (ix3 (⟨r.val + 1, by omega⟩ : Fin 4) a b) = stageF m (up r c) (ix2 a b) := rfl

/-- A stage landed in slot `r + 1` of the device `r + 1` places before its owner leaves there what `commF` says. -/
theorem landed (r : Fin 3) (c : Dev nD) (fd : Buf (Elt F) ((slot r).view.loc ((dn r c : Dev nD) : Thread nD τ))) :
    ∀ i ∈ (slot r).view.set, (slot r).view.write (Elt F) fd (sM.view.read (Elt F) (stageF m c)) Finset.univ i = commF m (dn r c) i := by
  intro i hi
  obtain ⟨j, -, rfl⟩ := Finset.mem_map.mp hi
  obtain ⟨a, b, rfl⟩ : ∃ (a : Fin 2) (b : Fin 256), j = ix2 a b := ⟨j 0, j 1, eq_ix2 j⟩
  rw [View.write_emb_of_mem _ _ (Finset.mem_univ _)]
  rw [slot_emb, commF_slot, up_dn]
  rfl

/-! ## Ownership assertions -/

/-- Device `c`'s block in HBM. -/
def xPts (c : Dev nD) : sProp 𝕄 := xM.view.loc (c : Thread nD τ) ↦[xM.view.set]{fullShare} xF m c
/-- The copy of the block in VMEM. -/
def vPts (c : Dev nD) (f : Buf (Elt F) (vM.view.loc (c : Thread nD τ))) : sProp 𝕄 := vM.view.loc (c : Thread nD τ) ↦[vM.view.set]{fullShare} f
/-- Slot `r + 1` of device `c`'s comm buffer. -/
def slotPts (r : Fin 3) (c : Dev nD) (f : Buf (Elt F) ((slot r).view.loc (c : Thread nD τ))) : sProp 𝕄 :=
  (slot r).view.loc (c : Thread nD τ) ↦[(slot r).view.set]{fullShare} f
/-- A share of device `c`'s stage. -/
def stagePts (q : PosShare TreeShare) (c : Dev nD) : sProp 𝕄 := sM.view.loc (c : Thread nD τ) ↦[sM.view.set]{q} stageF m c
/-- The share of the stage that transfer `r` reads. -/
abbrev lent (r : Fin 3) : PosShare TreeShare := Transfers.shareTok fullShare 3 r

omit [FloatOps F] in
instance xPts_storable (c : Dev nD) : BI.Storable (upEmb : UEmb _ 𝕄) (xPts (F := F) m c) := by unfold xPts; infer_instance
omit [FloatOps F] in
instance vPts_storable (c : Dev nD) (f) : BI.Storable (upEmb : UEmb _ 𝕄) (vPts (F := F) c f) := by unfold vPts; infer_instance
omit [FloatOps F] in
instance slotPts_storable (r : Fin 3) (c : Dev nD) (f) : BI.Storable (upEmb : UEmb _ 𝕄) (slotPts (F := F) r c f) := by unfold slotPts; infer_instance
instance stagePts_storable (q : PosShare TreeShare) (c : Dev nD) : BI.Storable (upEmb : UEmb _ 𝕄) (stagePts (F := F) m q c) := by unfold stagePts; infer_instance

/-! ## The schedule -/

/-- Which part a semaphore plays. -/
inductive Role | bar | copy | send (r : Fin 3) | recv (r : Fin 3) | other
  deriving DecidableEq

def role : SemLoc sig → Role
  | .reg _ => .bar
  | .dma q => match q.val with
    | 1 => .copy
    | 2 => .send 0 | 3 => .send 1 | 4 => .send 2
    | 5 => .recv 0 | 6 => .recv 1 | 7 => .recv 2
    | _ => .other

theorem role_bar : role (.reg barS) = .bar := rfl
theorem role_copy : role (.dma copyS) = .copy := by decide
theorem role_send (r : Fin 3) : role (.dma (sendS r)) = .send r := by revert r; decide
theorem role_recv (r : Fin 3) : role (.dma (recvS r)) = .recv r := by revert r; decide

/-- What device `dn r c`'s signal hands `c`: the slot `c`'s stage goes to, and that its receive cell is ready. -/
def barPay (c : Dev nD) (r : Fin 3) : sProp 𝕄 := iprop((∃ f, slotPts r (dn r c) f) ∗ reached ER (recvCell r (dn r c)) 0)

def Role.duties : Role → Finset (Fin 3)
  | .bar => Finset.univ
  | .other => ∅
  | _ => {0}

def Role.amount : Role → ℕ
  | .bar => 1
  | .copy => Ncopy
  | _ => N

def rolePay (c : Dev nD) (d : Fin 3) : Role → sProp 𝕄
  | .bar => barPay c d
  | .copy => iprop(vPts c (xF m c) ∗ xPts m c)
  | .send r => stagePts m (lent r) c
  | .recv r => slotPts r c (commF m c)
  | .other => iprop(emp)

instance rolePay_storable (c : Dev nD) (d : Fin 3) (k : Role) : BI.Storable (upEmb : UEmb _ 𝕄) (rolePay (F := F) m c d k) := by
  cases k <;> unfold rolePay <;> first | infer_instance | (unfold barPay; infer_instance)

def ringRd : Rounds.Schedule (GSem nD τ sig) (Fin 3) 𝕄 where
  duties g r := if r = 0 ∧ g.1.2 = .tc then (role g.2).duties else ∅
  unitless _ := False
  amount g _ _ := (role g.2).amount
  payload g _ d := rolePay m g.1.1 d (role g.2)
  amount_pos g _ _ _ := by
    cases role g.2 <;> first | exact Nat.one_pos | exact Ncopy_pos | exact N_pos

instance ringRd_payload_storable (g : GSem nD τ sig) (r : ℕ) (d : Fin 3) : BI.Storable (upEmb : UEmb _ 𝕄) ((ringRd (F := F) m).payload g r d) :=
  rolePay_storable m g.1.1 d (role g.2)

section Sched
variable (c : Dev nD) (r : Fin 3)

theorem duties_of {sm : SemLoc sig} {k : Role} (h : role sm = k) : (ringRd (F := F) m).duties ((c : Thread nD τ), sm) 0 = k.duties := by
  subst h; dsimp only [ringRd]; exact if_pos ⟨rfl, rfl⟩
theorem duties_bar : (ringRd (F := F) m).duties (barCell c) 0 = Finset.univ := duties_of m c role_bar
theorem duties_copy : (ringRd (F := F) m).duties (copyCell c) 0 = {0} := duties_of m c role_copy
theorem duties_send : (ringRd (F := F) m).duties (sendCell r c) 0 = {0} := duties_of m c (role_send r)
theorem duties_recv : (ringRd (F := F) m).duties (recvCell r c) 0 = {0} := duties_of m c (role_recv r)
theorem duties_later (g : GSem nD τ sig) : ∀ k, 1 ≤ k → (ringRd (F := F) m).duties g k = ∅ :=
  fun k hk => by dsimp only [ringRd]; exact if_neg fun h => by omega

theorem amount_bar (d : Fin 3) : (ringRd (F := F) m).amount (barCell c) 0 d = 1 := rfl
theorem amount_copy (d : Fin 3) : (ringRd (F := F) m).amount (copyCell c) 0 d = Ncopy := congrArg Role.amount role_copy
theorem amount_send (d : Fin 3) : (ringRd (F := F) m).amount (sendCell r c) 0 d = N := congrArg Role.amount (role_send r)
theorem amount_recv (d : Fin 3) : (ringRd (F := F) m).amount (recvCell r c) 0 d = N := congrArg Role.amount (role_recv r)

theorem payload_bar (d : Fin 3) : (ringRd (F := F) m).payload (barCell c) 0 d = barPay c d := rfl
theorem payload_copy (d : Fin 3) : (ringRd (F := F) m).payload (copyCell c) 0 d = iprop(vPts c (xF m c) ∗ xPts m c) :=
  congrArg (rolePay m c d) role_copy
theorem payload_send (d : Fin 3) : (ringRd (F := F) m).payload (sendCell r c) 0 d = stagePts m (lent r) c :=
  congrArg (rolePay m c d) (role_send r)
theorem payload_recv (d : Fin 3) : (ringRd (F := F) m).payload (recvCell r c) 0 d = slotPts r c (commF m c) :=
  congrArg (rolePay m c d) (role_recv r)

theorem expect_bar : (ringRd (F := F) m).expect (barCell c) 0 = 3 := by
  unfold Schedule.expect Schedule.amountOf
  rw [duties_bar, Finset.sum_congr rfl fun d _ => amount_bar m c d]; rfl
theorem expect_copy : (ringRd (F := F) m).expect (copyCell c) 0 = Ncopy := by
  unfold Schedule.expect Schedule.amountOf; rw [duties_copy, Finset.sum_singleton, amount_copy]
theorem expect_send : (ringRd (F := F) m).expect (sendCell r c) 0 = N := by
  unfold Schedule.expect Schedule.amountOf; rw [duties_send, Finset.sum_singleton, amount_send]
theorem expect_recv : (ringRd (F := F) m).expect (recvCell r c) 0 = N := by
  unfold Schedule.expect Schedule.amountOf; rw [duties_recv, Finset.sum_singleton, amount_recv]

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

theorem rest_bar : bigSep ((ringRd (F := F) m).duties (barCell c) 0 \ ∅) (fun d => (ringRd (F := F) m).payload (barCell c) 0 d)
    = iprop(barPay c 0 ∗ barPay c 1 ∗ barPay c 2) := by
  rw [Finset.sdiff_empty, duties_bar, bigSep_three]; rfl
theorem rest_copy : bigSep ((ringRd (F := F) m).duties (copyCell c) 0 \ ∅) (fun d => (ringRd (F := F) m).payload (copyCell c) 0 d)
    = iprop(vPts c (xF m c) ∗ xPts m c) := by
  rw [Finset.sdiff_empty, duties_copy, bigSep_singleton, payload_copy]
theorem rest_send : bigSep ((ringRd (F := F) m).duties (sendCell r c) 0 \ ∅) (fun d => (ringRd (F := F) m).payload (sendCell r c) 0 d)
    = stagePts m (lent r) c := by
  rw [Finset.sdiff_empty, duties_send, bigSep_singleton, payload_send]
theorem rest_recv : bigSep ((ringRd (F := F) m).duties (recvCell r c) 0 \ ∅) (fun d => (ringRd (F := F) m).payload (recvCell r c) 0 d)
    = slotPts r c (commF m c) := by
  rw [Finset.sdiff_empty, duties_recv, bigSep_singleton, payload_recv]

end Sched

/-! ## What each device owes at launch; the levels -/

/-- The transfers device `c` is still to make after its signals. -/
def owedSends (c : Dev nD) : CellTallies nD τ sig Unit :=
  (tallyAt (recvCell 2 (dn 2 c)) () N + tallyAt (recvCell 1 (dn 1 c)) () N) + tallyAt (recvCell 0 (dn 0 c)) () N

/-- Device `c` owes each of the others a stage and a barrier signal. -/
def O₀ (c : Dev nD) : CellTallies nD τ sig Unit :=
  ((owedSends c + tallyAt (barCell (up 2 c)) () 1) + tallyAt (barCell (up 1 c)) () 1) + tallyAt (barCell (up 0 c)) () 1

def L (g : GSem nD τ sig) : Finset Unit := if g.1.2 = .tc then {()} else ∅
/-- The copies and the sends are waited for owing anything; the barrier owing only stages. -/
def lv (g : GSem nD τ sig) (_ : Unit) : ℕ := match role g.2 with | .bar => 1 | .recv _ => 2 | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_recv (r : Fin 3) (c : Dev nD) (u : Unit) : lv (recvCell r c) u = 2 := by unfold lv; rw [role_recv]
theorem lv_bar (c : Dev nD) (u : Unit) : lv (barCell c) u = 1 := rfl

theorem tally_pos {g g' : GSem nD τ sig} {k : ℕ} {u : Unit} (h : 0 < (tallyAt g () k : CellTallies nD τ sig Unit) g' u) : g' = g := by
  rw [tallyAt_apply] at h
  by_contra hn
  rw [if_neg (fun h' => hn h'.1)] at h
  exact Nat.lt_irrefl 0 h

theorem owedSends_pos {c : Dev nD} {g : GSem nD τ sig} {u : Unit} (h : 0 < owedSends c g u) : ∃ r, g = recvCell r (dn r c) := by
  unfold owedSends at h
  rw [Pi.add_apply, Finsupp.add_apply, Pi.add_apply, Finsupp.add_apply] at h
  rcases Nat.pos_of_ne_zero (Nat.ne_of_gt h) |> Nat.add_pos_iff_pos_or_pos.mp with h | h
  · rcases Nat.add_pos_iff_pos_or_pos.mp h with h | h
    · exact ⟨2, tally_pos h⟩
    · exact ⟨1, tally_pos h⟩
  · exact ⟨0, tally_pos h⟩

theorem O₀_pos {c : Dev nD} {g : GSem nD τ sig} {u : Unit} (h : 0 < O₀ c g u) :
    (∃ r, g = recvCell r (dn r c)) ∨ ∃ r, g = barCell (up r c) := by
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (owedSends_pos h)
      · exact .inr ⟨2, tally_pos h⟩
    · exact .inr ⟨1, tally_pos h⟩
  · exact .inr ⟨0, tally_pos h⟩

/-- A wait on a cell below the barrier, owing what is owed at launch, or part of it. -/
theorem mayWait_low (c : Dev nD) (q : DmaSem sig) (hq : ∀ u, lv ((c : Thread nD τ), .dma q) u = 0) (O : CellTallies nD τ sig Unit)
    (hO : O = O₀ c ∨ O = owedSends c ∨ O = 0) : (levAts L lv : sProp 𝕄) ⊢ MayWait (c : Thread nD τ) (.dma q) () O := by
  have key (hpos : ∀ (g : GSem nD τ sig) (u : Unit), 0 < O g u → (∃ r, g = recvCell r (dn r c)) ∨ ∃ r, g = barCell (up r c)) :
      (levAts L lv : sProp 𝕄) ⊢ MayWait (c : Thread nD τ) (.dma q) () O :=
    MayOwe.of_cut (L := L) (lev := lv) 0 (fun p hp => by rw [Finset.mem_singleton.mp hp, L_tc]; exact Finset.mem_singleton_self _)
      (fun g u hg => by rcases hpos g u hg with ⟨r, rfl⟩ | ⟨r, rfl⟩ <;> exact Finset.mem_singleton_self _)
      (fun p hp => by rw [Finset.mem_singleton.mp hp]; exact le_of_eq (hq _))
      (fun g u hg => by
        rcases hpos g u hg with ⟨r, rfl⟩ | ⟨r, rfl⟩
        · rw [lv_recv]; decide
        · rw [lv_bar]; decide)
  rcases hO with rfl | rfl | rfl
  · exact key fun g u h => O₀_pos h
  · exact key fun g u h => .inl (owedSends_pos h)
  · rw [MayWait_zero]; iintro -; iempintro

theorem lv_copy (c : Dev nD) (u : Unit) : lv (copyCell c) u = 0 := by unfold lv; rw [role_copy]

/-- The wait on the barrier, all stages owed. -/
theorem mayWait_bar (c : Dev nD) : (levAts L lv : sProp 𝕄) ⊢ MayWait (c : Thread nD τ) (.reg barS) () (owedSends c) :=
  MayOwe.of_cut (L := L) (lev := lv) 1 (fun p hp => by rw [Finset.mem_singleton.mp hp, L_tc]; exact Finset.mem_singleton_self _)
    (fun g u hg => by obtain ⟨r, rfl⟩ := owedSends_pos hg; exact Finset.mem_singleton_self _)
    (fun p hp => by rw [Finset.mem_singleton.mp hp]; exact le_of_eq (lv_bar c _))
    (fun g u hg => by obtain ⟨r, rfl⟩ := owedSends_pos hg; rw [lv_recv]; decide)

end Cert.RingArgmax

end
-- ==== Proof.Body.lean ====
/-
The kernel body: from what a device holds at launch to its result in the staging buffer, its buffers whole again and
its semaphore counters at zero.
-/
module

public import proofs.«01_k».proof.Proof.Protocol

@[expose] public section

set_option maxRecDepth 16384

noncomputable section

namespace Cert.RingArgmax

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All cells by number -/

/-- The kernel's own (scoped) semaphores: the copy's, the sends', the receives'. -/
abbrev osem : Fin 7 → SemLoc sig := fun
  | 0 => .dma copyS | 1 => .dma (sendS 0) | 2 => .dma (sendS 1) | 3 => .dma (sendS 2)
  | 4 => .dma (recvS 0) | 5 => .dma (recvS 1) | 6 => .dma (recvS 2)
/-- All of the protocol's: the barrier, then the own ones. -/
abbrev ksem : Fin 8 → SemLoc sig := fun
  | 0 => .reg barS | 1 => .dma copyS | 2 => .dma (sendS 0) | 3 => .dma (sendS 1) | 4 => .dma (sendS 2)
  | 5 => .dma (recvS 0) | 6 => .dma (recvS 1) | 7 => .dma (recvS 2)
abbrev kcell (ck : Dev nD × Fin 8) : GSem nD τ sig := ((ck.1 : Thread nD τ), ksem ck.2)

/-- The number of the `r`-th send cell, and of the `r`-th receive cell. -/
abbrev kSend : Fin 3 → Fin 8 | 0 => 2 | 1 => 3 | 2 => 4
abbrev kRecv : Fin 3 → Fin 8 | 0 => 5 | 1 => 6 | 2 => 7
theorem kcell_send (r : Fin 3) (c : Dev nD) : kcell (c, kSend r) = sendCell r c := by
  match r with | 0 => rfl | 1 => rfl | 2 => rfl
theorem kcell_recv (r : Fin 3) (c : Dev nD) : kcell (c, kRecv r) = recvCell r c := by
  match r with | 0 => rfl | 1 => rfl | 2 => rfl

/-- Every cell's invariant, and that every cell has reached its first round. -/
def records (K : Dev nD × Fin 8 → ℕ) : sProp 𝕄 :=
  iprop((bigSep Finset.univ fun ck : Dev nD × Fin 8 => cellInv ER (ringRd m) (K ck) (kcell ck))
    ∗ bigSep Finset.univ fun ck : Dev nD × Fin 8 => reached ER (kcell ck) 0)
instance records_persistent (K : Dev nD × Fin 8 → ℕ) : BI.Persistent (records (F := F) m K) := by unfold records; infer_instance

section Records
variable (K : Dev nD × Fin 8 → ℕ)

theorem inv_at (ck : Dev nD × Fin 8) : records (F := F) m K ⊢ cellInv ER (ringRd m) (K ck) (kcell ck) := by
  have h : (bigSep Finset.univ fun ck : Dev nD × Fin 8 => (cellInv ER (ringRd m) (K ck) (kcell ck) : sProp 𝕄)) ⊢ cellInv ER (ringRd m) (K ck) (kcell ck) :=
    bigSep_elim (Finset.mem_univ ck)
  unfold records; iintro ⟨H, -⟩; iapply h; iexact H
theorem reached_at (ck : Dev nD × Fin 8) : records (F := F) m K ⊢ reached ER (kcell ck) 0 := by
  have h : (bigSep Finset.univ fun ck : Dev nD × Fin 8 => (reached ER (kcell ck) 0 : sProp 𝕄)) ⊢ reached ER (kcell ck) 0 :=
    bigSep_elim (Finset.mem_univ ck)
  unfold records; iintro ⟨-, H⟩; iapply h; iexact H

theorem inv_send (r : Fin 3) (c : Dev nD) : records (F := F) m K ⊢ cellInv ER (ringRd m) (K (c, kSend r)) (sendCell r c) := by
  rw [← kcell_send]; exact inv_at m K _
theorem inv_recv (r : Fin 3) (c : Dev nD) : records (F := F) m K ⊢ cellInv ER (ringRd m) (K (c, kRecv r)) (recvCell r c) := by
  rw [← kcell_recv]; exact inv_at m K _
theorem reached_send (r : Fin 3) (c : Dev nD) : records (F := F) m K ⊢ reached ER (sendCell r c) 0 := by
  rw [← kcell_send]; exact reached_at m K _
theorem reached_recv (r : Fin 3) (c : Dev nD) : records (F := F) m K ⊢ reached ER (recvCell r c) 0 := by
  rw [← kcell_recv]; exact reached_at m K _

end Records

/-! ## What a device holds -/

/-- The position in each own cell. -/
def posns (c : Dev nD) : sProp 𝕄 :=
  iprop(atPos ER (barCell c) 0 ∅ 0 ∗ atPos ER (copyCell c) 0 ∅ 0
    ∗ (atPos ER (sendCell 0 c) 0 ∅ 0 ∗ atPos ER (sendCell 1 c) 0 ∅ 0 ∗ atPos ER (sendCell 2 c) 0 ∅ 0)
    ∗ (atPos ER (recvCell 0 c) 0 ∅ 0 ∗ atPos ER (recvCell 1 c) 0 ∅ 0 ∗ atPos ER (recvCell 2 c) 0 ∅ 0))
/-- The right to discharge each duty that falls to `c`. -/
def payToks (c : Dev nD) : sProp 𝕄 :=
  iprop((dutyTok ER (barCell (up 0 c)) 0 0 ∗ dutyTok ER (barCell (up 1 c)) 0 1 ∗ dutyTok ER (barCell (up 2 c)) 0 2)
    ∗ dutyTok ER (copyCell c) 0 0
    ∗ (dutyTok ER (sendCell 0 c) 0 0 ∗ dutyTok ER (sendCell 1 c) 0 0 ∗ dutyTok ER (sendCell 2 c) 0 0)
    ∗ (dutyTok ER (recvCell 0 (dn 0 c)) 0 0 ∗ dutyTok ER (recvCell 1 (dn 1 c)) 0 0 ∗ dutyTok ER (recvCell 2 (dn 2 c)) 0 0))
/-- What the others owe `c`. -/
def creds (c : Dev nD) : sProp 𝕄 :=
  iprop(cred (tallyAt (barCell c) () 3)
    ∗ (cred (tallyAt (recvCell 0 c) () N) ∗ cred (tallyAt (recvCell 1 c) () N) ∗ cred (tallyAt (recvCell 2 c) () N)))
def ghost (K : Dev nD × Fin 8 → ℕ) (c : Dev nD) : sProp 𝕄 := iprop(records m K ∗ posns c ∗ payToks c)
def start (c : Dev nD) : sProp 𝕄 := iprop((∃ K, ghost m K c) ∗ creds c ∗ levAts L lv ∗ xPts m c)

/-- A scratch buffer whole, whatever it holds. -/
abbrev some₀ (c : Dev nD) (b : Ref sig .tc) : sProp 𝕄 := iprop(∃ f : Buf (Elt F) ((c : Thread nD τ).loc b), ((c : Thread nD τ).loc b) ↦{fullShare} f)
def scratch (c : Dev nD) : sProp 𝕄 := iprop(some₀ (F := F) c cc0_scratch0 ∗ some₀ c cc0_scratch2 ∗ some₀ c cc0_scratch3)
/-- The counters of the own semaphores back at zero. -/
def zeros (c : Dev nD) : sProp 𝕄 :=
  iprop(semVal (copyCell c) 0 ∗ semVal (sendCell 0 c) 0 ∗ semVal (sendCell 1 c) 0 ∗ semVal (sendCell 2 c) 0
    ∗ semVal (recvCell 0 c) 0 ∗ semVal (recvCell 1 c) 0 ∗ semVal (recvCell 2 c) 0)
def Φ₀ (c : Dev nD) : sProp 𝕄 := iprop(start m c ∗ scratch c)
def Φ₁ (c : Dev nD) : sProp 𝕄 := iprop(xPts m c ∗ semVal (barCell c) 0 ∗ zeros c ∗ scratch c)

def dats (_ : Fin 1) (c : Dev nD) : Dat τ (Elt F) Unit ℕ UU ℕ cfg0 c where
  A w := m ((cfg0.win w).arr.view.loc (c : Thread nD τ))
  after w _ := match w with
    | ⟨0, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Taking buffers apart and putting them together -/

abbrev sPts (c : Dev nD) (f : Buf (Elt F) ((c : Thread nD τ).loc cc0_scratch2)) : sProp 𝕄 := ((c : Thread nD τ).loc cc0_scratch2) ↦{fullShare} f
abbrev cPts (c : Dev nD) (f : Buf (Elt F) ((c : Thread nD τ).loc cc0_scratch3)) : sProp 𝕄 := ((c : Thread nD τ).loc cc0_scratch3) ↦{fullShare} f

abbrev rest0 : Finset S4x2x256.Idx := Finset.univ \ (slot 0).view.set
abbrev rest1 : Finset S4x2x256.Idx := rest0 \ (slot 1).view.set
abbrev rest2 : Finset S4x2x256.Idx := rest1 \ (slot 2).view.set

theorem slot1_rest0 : (slot 1).view.set ⊆ rest0 :=
  Finset.subset_sdiff.mpr ⟨Finset.subset_univ _, slot_disjoint (by decide)⟩
theorem slot2_rest1 : (slot 2).view.set ⊆ rest1 :=
  Finset.subset_sdiff.mpr ⟨Finset.subset_sdiff.mpr ⟨Finset.subset_univ _, slot_disjoint (by decide)⟩, slot_disjoint (by decide)⟩

omit [FloatOps F] in
/-- The comm buffer is its three slots and the rest. -/
theorem comm_split (c : Dev nD) (f : Buf (Elt F) ((c : Thread nD τ).loc cc0_scratch3)) :
    cPts (F := F) c f ⊢ iprop(slotPts 0 c f ∗ slotPts 1 c f ∗ slotPts 2 c f ∗ ((c : Thread nD τ).loc cc0_scratch3) ↦[rest2]{fullShare} f) := by
  unfold cPts
  refine (pointsTo_split_subset (Finset.subset_univ (slot 0).view.set)).1.trans (sep_mono_right ?_)
  refine (pointsTo_split_subset slot1_rest0).1.trans (sep_mono_right ?_)
  exact (pointsTo_split_subset slot2_rest1).1

omit [FloatOps F] in
/-- And back, whatever the slots then hold. -/
theorem comm_join (c : Dev nD) (f g : Buf (Elt F) ((c : Thread nD τ).loc cc0_scratch3)) :
    iprop(slotPts 0 c g ∗ slotPts 1 c g ∗ slotPts 2 c g ∗ ((c : Thread nD τ).loc cc0_scratch3) ↦[rest2]{fullShare} f)
      ⊢ (some₀ (F := F) c cc0_scratch3 : sProp 𝕄) := by
  refine (sep_mono_right ((sep_mono_right (pointsTo_join_subset slot2_rest1)).trans (pointsTo_join_subset slot1_rest0))).trans ?_
  refine (pointsTo_join_subset (Finset.subset_univ (slot 0).view.set)).trans ?_
  iintro H; iexists _; iexact H

theorem sM_set : sM.view.set = Finset.univ := View.set_whole _

/-- The stage is what the transfers read and what is kept for loading. -/
theorem stage_split (c : Dev nD) :
    sPts (F := F) c (stageF m c) ⊢ iprop(stagePts m (Transfers.shareDrop fullShare 3) c ∗ stagePts m (lent 0) c ∗ stagePts m (lent 1) c ∗ stagePts m (lent 2) c) := by
  unfold sPts stagePts
  rw [sM_set]
  refine (Transfers.pointsTo_toks_split fullShare 3).trans ?_
  rw [bigSep_three]
theorem stage_join (c : Dev nD) :
    iprop(stagePts m (Transfers.shareDrop fullShare 3) c ∗ stagePts m (lent 0) c ∗ stagePts m (lent 1) c ∗ stagePts m (lent 2) c) ⊢ sPts (F := F) c (stageF m c) := by
  unfold sPts stagePts
  rw [sM_set]
  refine BIBase.Entails.trans ?_ (Transfers.pointsTo_toks_join fullShare 3)
  rw [bigSep_three]

/-! ## The steps -/

theorem hz2 : (![0, 0] : Fin 2 → Nat) = fun _ => 0 := funext fun a => by fin_cases a <;> rfl
abbrev rX : Rect S256x256 := Rect.unit (s := S256x256) ![0, 0] S256x256.size inb_S256x256_S256x256_0_0

omit [FloatOps F] in
theorem read_v (f : (cc0_scratch0 : Ref sig .tc).ty.Contents (Elt F)) : vM.view.readAt (Elt F) rX.toLoadRect f = f :=
  Memref.readAt_unit_zero (Elt F) cc0_scratch0 hz2 _ f

omit [FloatOps F] in
theorem copied (c : Dev nD) (fd : Buf (Elt F) (vM.view.loc (c : Thread nD τ))) :
    vM.view.write (Elt F) fd (xM.view.read (Elt F) (xF m c)) Finset.univ = xF m c := by
  show (View.whole cc0_scratch0).write (Elt F) fd ((View.whole main_arg0).read (Elt F) (xF m c)) Finset.univ = xF m c
  rw [View.read_whole]; exact View.write_whole_univ _ _ _

section Body
variable (K : Dev nD × Fin 8 → ℕ)

/-- The transfer of the stage to the device `r + 1` places before. -/
theorem wp_send_stage (r : Fin 3) (c n : Dev nD) (hn : n = dn r c) {hsc : (slot r : Memref sig (Dev.tc n : Thread nD τ).2.kind .vmem S2x256 .f32).view.ref.isScScratch = false}
    {hsrc : sM.view.WordExact} {hdst : (slot r).view.WordExact}
    {hsem : DmaTarget.Typed .vmem (.dma (recvS r)) (.remote (Dev.tc n : Thread nD τ) (slot r) (.dma (sendS r)) hsc)}
    {α : Type} {Q : α → sProp 𝕄} {k : PUnit → Prog (TpuEff nD τ sig (Elt F) Λ₀ .tc) α}
    (fn : Buf (Elt F) ((slot r).view.loc ((dn r c : Dev nD) : Thread nD τ))) (O : CellTallies nD τ sig Unit) (W : Waits sig Unit) :
    iprop(records m K ∗ stagePts m (lent r) c ∗ slotPts r (dn r c) fn ∗ owes (c : Thread nD τ) (O + tallyAt (recvCell r (dn r c)) () N) W
        ∗ dutyTok ER (sendCell r c) 0 0 ∗ dutyTok ER (recvCell r (dn r c)) 0 0)
      ⊢ iprop(((cred (tallyAt (sendCell r c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) (slot r) (.dma (sendS r)) hsc) (.dma (recvS r)) hsrc hdst hsem) k) Q) := by
  subst hn
  iintro ⟨#HR, Hs, Hd, HO, HtS, HtV⟩
  iapply (Rounds.wp_send_pointsTo 𝒱₀ ER (ringRd m) (c : Thread nD τ) none (κ₁ := K (c, kSend r)) (κ₂ := K (dn r c, kRecv r))
    (r₁ := 0) (r₂ := 0) (d₁ := 0) (d₂ := 0) (fd := fn) (fs := stageF m c) (q := lent r)
    (by rw [duties_send]; exact Finset.mem_singleton_self _) (by rw [duties_recv]; exact Finset.mem_singleton_self _)
    () () N rfl (amount_send m c r 0) (amount_recv m (dn r c) r 0) O rfl (W := W)
    (by rw [payload_send]; unfold stagePts; exact BI.Entails.refl _)
    (by rw [payload_recv]; unfold slotPts; exact Entails.of_eq (pointsTo_congr (landed m r c fn))))
  isplitr; · iapply (inv_send m K r c); iexact HR
  isplitr; · iapply (inv_recv m K r (dn r c)); iexact HR
  isplitl [Hs]; · unfold stagePts; iexact Hs
  isplitl [Hd]; · unfold slotPts; iexact Hd
  isplitl [HO]; · iexact HO
  isplitl [HtS]; · iexact HtS
  isplitr; · iapply (reached_send m K r c); iexact HR
  isplitl [HtV]; · iexact HtV
  iapply (reached_recv m K r (dn r c)); iexact HR

/-- Waiting for the stage of the device `r + 1` places on: slot `r + 1` comes back with it. -/
theorem wp_wait_recv (r : Fin 3) (c : Dev nD) {sp sp' : Space} {s s' : Shape} {e e' : EltTy} {src : Memref sig .tc sp s e} {dst : Memref sig .tc sp' s' e'}
    {hsrc : src.view.WordExact} {hdst : dst.view.WordExact} (hN : dst.view.dmaCredit = N)
    {α : Type} {Q : α → sProp 𝕄} {k : PUnit → Prog (TpuEff nD τ sig (Elt F) Λ₀ .tc) α} (W : Waits sig Unit) :
    iprop(records m K ∗ cred (tallyAt (recvCell r c) () N) ∗ owes (c : Thread nD τ) 0 W ∗ atPos ER (recvCell r c) 0 ∅ 0)
      ⊢ iprop(((owes (c : Thread nD τ) 0 (insert (SemLoc.dma (recvS r), ()) W) ∗ semVal (recvCell r c) 0 ∗ slotPts r c (commF m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS r) src dst hsrc hdst) k) Q) := by
  iintro ⟨#HR, Hc, HO, Hat⟩ Hk
  iapply (Rounds.wp_wait_rest_token 𝒱₀ ER (ringRd m) (c : Thread nD τ) none (κ := K (c, kRecv r))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iapply (inv_recv m K r c); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m c r)) $$ Hpay
  imod (Rounds.cell_close ER (ringRd m) (Set.mem_univ (K (c, kRecv r))) (fun h => h) (R := 0 + 1) (duties_later m (recvCell r c))) $$ [Hat] with Hz
  · isplitr; · iapply (inv_recv m K r c); iexact HR
    iexact Hat
  iapply Hk
  isplitl [HO]; · iexact HO
  isplitl [Hz]; · iexact Hz
  iexact Hp

/-- Waiting for the transfer `r` to have read the stage: the share it read comes back. -/
theorem wp_wait_send (r : Fin 3) (c : Dev nD) {sp sp' : Space} {s s' : Shape} {e e' : EltTy} {src : Memref sig .tc sp s e} {dst : Memref sig .tc sp' s' e'}
    {hsrc : src.view.WordExact} {hdst : dst.view.WordExact} (hN : dst.view.dmaCredit = N)
    {α : Type} {Q : α → sProp 𝕄} {k : PUnit → Prog (TpuEff nD τ sig (Elt F) Λ₀ .tc) α} (W : Waits sig Unit) :
    iprop(records m K ∗ cred (tallyAt (sendCell r c) () N) ∗ owes (c : Thread nD τ) 0 W ∗ atPos ER (sendCell r c) 0 ∅ 0)
      ⊢ iprop(((owes (c : Thread nD τ) 0 (insert (SemLoc.dma (sendS r), ()) W) ∗ semVal (sendCell r c) 0 ∗ stagePts m (lent r) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS r) src dst hsrc hdst) k) Q) := by
  iintro ⟨#HR, Hc, HO, Hat⟩ Hk
  iapply (Rounds.wp_wait_rest_token 𝒱₀ ER (ringRd m) (c : Thread nD τ) none (κ := K (c, kSend r))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (inv_send m K r c); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c r)) $$ Hpay
  imod (Rounds.cell_close ER (ringRd m) (Set.mem_univ (K (c, kSend r))) (fun h => h) (R := 0 + 1) (duties_later m (sendCell r c))) $$ [Hat] with Hz
  · isplitr; · iapply (inv_send m K r c); iexact HR
    iexact Hat
  iapply Hk
  isplitl [HO]; · iexact HO
  isplitl [Hz]; · iexact Hz
  iexact Hp

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ creds c ∗ levAts L lv ∗ xPts m c ∗ scratch c)
    ∗ (dats m 0 c).owesAt () t0_0.castSucc
    ∗ (∃ d, stg c cc0_stg0_0 ((dats m 0 c).before (0 : Fin 1) t0_0 d)))
def bodyPost (c : Dev nD) : sProp 𝕄 :=
  iprop(Φ₁ m c ∗ (dats m 0 c).owesAt () t0_0.succ ∗ stg c cc0_stg0_0 (outF m c))

set_option maxHeartbeats 4000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) cc0_scratch1 (Memref.whole cc0_scratch2) (Memref.isWhole_whole _)
            (Memref.whole cc0_scratch3) (Memref.isWhole_whole _) cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre ghost posns payToks creds scratch
  iintro ⟨⟨⟨⟨#HR, ⟨HaB, HaC, ⟨HaS0, HaS1, HaS2⟩, ⟨HaV0, HaV1, HaV2⟩⟩, ⟨⟨HtB0, HtB1, HtB2⟩, HtC, ⟨HtS0, HtS1, HtS2⟩, ⟨HtV0, HtV1, HtV2⟩⟩⟩, ⟨HcB, ⟨HcV0, HcV1, HcV2⟩⟩, #Hlev, Hx, ⟨⟨%fv, Hv⟩, ⟨%fs, Hs⟩, ⟨%fc, Hc⟩⟩⟩, Ho, ⟨%d0, %g0, %hg0, Hout⟩⟩, Hk⟩
  unfold Dat.owesAt Pipeline.owesWithin
  icases Ho with ⟨%W, %hW, HO⟩
  rw [show (dats m 0 c).owed t0_0.castSucc = O₀ c from rfl]
  simp only [dev1_eq c, dev2_eq c, dev3_eq c]
  ihave Hc4 := (comm_split c fc) $$ Hc
  icases Hc4 with ⟨Hc0, Hc1, Hc2, Hcr⟩
  unfold O₀
  -- signal 0: the slot for the stage of `up 0 c`
  iapply (Rounds.wp_signal 𝒱₀ ER (ringRd m) (c : Thread nD τ) none (dst := (up 0 c : Thread nD τ)) (κ := K (up 0 c, 0)) (r := 0) (d := 0)
      (by rw [duties_bar]; exact Finset.mem_univ _) ((amount_bar m (up 0 c) 0).trans (by decide)) () ((owedSends c + tallyAt (barCell (up 2 c)) () 1) + tallyAt (barCell (up 1 c)) () 1) rfl)
    $$ [HO HtB0 Hc0]
  · isplitr; · iapply (inv_at m K (up 0 c, 0)); iexact HR
    isplitl [HO]; · iexact HO
    isplitl [HtB0]; · iexact HtB0
    isplitl [Hc0]
    · rw [payload_bar]; unfold barPay; rw [dn_up]
      isplitl [Hc0]; · iexists fc; iexact Hc0
      iapply (reached_recv m K 0 c); iexact HR
    · iapply (reached_at m K (up 0 c, 0)); iexact HR
  iintro HO
  -- signal 1: the slot for the stage of `up 1 c`
  iapply (Rounds.wp_signal 𝒱₀ ER (ringRd m) (c : Thread nD τ) none (dst := (up 1 c : Thread nD τ)) (κ := K (up 1 c, 0)) (r := 0) (d := 1)
      (by rw [duties_bar]; exact Finset.mem_univ _) ((amount_bar m (up 1 c) 1).trans (by decide)) () (owedSends c + tallyAt (barCell (up 2 c)) () 1) rfl)
    $$ [HO HtB1 Hc1]
  · isplitr; · iapply (inv_at m K (up 1 c, 0)); iexact HR
    isplitl [HO]; · iexact HO
    isplitl [HtB1]; · iexact HtB1
    isplitl [Hc1]
    · rw [payload_bar]; unfold barPay; rw [dn_up]
      isplitl [Hc1]; · iexists fc; iexact Hc1
      iapply (reached_recv m K 1 c); iexact HR
    · iapply (reached_at m K (up 1 c, 0)); iexact HR
  iintro HO
  -- signal 2: the slot for the stage of `up 2 c`
  iapply (Rounds.wp_signal 𝒱₀ ER (ringRd m) (c : Thread nD τ) none (dst := (up 2 c : Thread nD τ)) (κ := K (up 2 c, 0)) (r := 0) (d := 2)
      (by rw [duties_bar]; exact Finset.mem_univ _) ((amount_bar m (up 2 c) 2).trans (by decide)) () (owedSends c) rfl)
    $$ [HO HtB2 Hc2]
  · isplitr; · iapply (inv_at m K (up 2 c, 0)); iexact HR
    isplitl [HO]; · iexact HO
    isplitl [HtB2]; · iexact HtB2
    isplitl [Hc2]
    · rw [payload_bar]; unfold barPay; rw [dn_up]
      isplitl [Hc2]; · iexists fc; iexact Hc2
      iapply (reached_recv m K 2 c); iexact HR
    · iapply (reached_at m K (up 2 c, 0)); iexact HR
  iintro HO
  -- the copy of the block in, and its wait
  iapply (Rounds.wp_copy_pointsTo 𝒱₀ ER (ringRd m) (c : Thread nD τ) none (src := xM) (dst := vM) (sem := .dma copyS) (κ := K (c, 1)) (r := 0) (d := 0) (q := fullShare)
      (fs := xF m c) (fd := fv) (by rw [duties_copy]; exact Finset.mem_singleton_self _) () Ncopy rfl (amount_copy m c 0)
      (by rw [payload_copy, copied]; unfold vPts xPts; exact BI.Entails.refl _)) $$ [Hx Hv HtC]
  · isplitr; · iapply (inv_at m K (c, 1)); iexact HR
    isplitl [Hx]; · unfold xPts; iexact Hx
    isplitl [Hv]; · rw [show vM.view.set = Finset.univ from View.set_whole _]; iexact Hv
    isplitl [HtC]; · iexact HtC
    iapply (reached_at m K (c, 1)); iexact HR
  iintro HcC
  iapply (Rounds.wp_wait_rest_token 𝒱₀ ER (ringRd m) (c : Thread nD τ) none (κ := K (c, 1))
      (wpE_waitDma2_eq 𝒱₀ (c : Thread nD τ) none Set.univ) (Set.mem_univ _) () (O := owedSends c) (W := W) (R := 0) (m := 0) (T := ∅)
      (by rw [Nat.zero_add, expect_copy])) $$ [HcC HO HaC]
  · isplitr; · iapply (inv_at m K (c, 1)); iexact HR
    isplitl [HcC]; · iexact HcC
    isplitl [HO]; · iexact HO
    isplitr; · iapply (mayWait_low c copyS (lv_copy c) (owedSends c) (.inr (.inl rfl))); iexact Hlev
    iexact HaC
  iintro ⟨HO, HaC, -, Hpay⟩
  ihave Hp := (Entails.of_eq (rest_copy m c)) $$ Hpay
  icases Hp with ⟨Hv, Hx⟩
  imod (Rounds.cell_close ER (ringRd m) (Set.mem_univ (K (c, 1))) (fun h => h) (R := 0 + 1) (duties_later m (copyCell c))) $$ [HaC] with HzC
  · isplitr; · iapply (inv_at m K (c, 1)); iexact HR
    iexact HaC
  unfold vPts
  -- the stage
  iapply (wp_load 𝒱₀ (c : Thread nD τ) none Set.univ (m := vM) (by rw [show vM.view.set = Finset.univ from View.set_whole _]; exact Finset.subset_univ _)) $$ Hv; iintro Hv
  rw [read_v]
  iapply (wp_load 𝒱₀ (c : Thread nD τ) none Set.univ (m := sM) (Finset.subset_univ _)) $$ Hs; iintro Hs
  iapply (wp_store 𝒱₀ (c : Thread nD τ) none Set.univ (m := sM) (r := row0) (Mk := Finset.univ) (Finset.subset_univ _)) $$ Hs; iintro Hs
  iapply (wp_load 𝒱₀ (c : Thread nD τ) none Set.univ (m := sM) (Finset.subset_univ _)) $$ Hs; iintro Hs
  iapply (wp_store 𝒱₀ (c : Thread nD τ) none Set.univ (m := sM) (r := row1) (Mk := Finset.univ) (Finset.subset_univ _)) $$ Hs; iintro Hs
  rw [write_stage]
  ihave Hs4 := (stage_split m c) $$ [Hs]
  · unfold sPts stageF; iexact Hs
  icases Hs4 with ⟨Hs, Hl0, Hl1, Hl2⟩
  -- the barrier
  iapply (Rounds.wp_wait_rest_token 𝒱₀ ER (ringRd m) (c : Thread nD τ) none (κ := K (c, 0))
      (wpE_semWait_eq 𝒱₀ (c : Thread nD τ) none Set.univ) (Set.mem_univ _) () (O := owedSends c) (W := insert (SemLoc.dma copyS, ()) W) (R := 0) (m := 0) (T := ∅)
      (by rw [expect_bar]; decide)) $$ [HcB HO HaB]
  · isplitr; · iapply (inv_at m K (c, 0)); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  unfold barPay
  icases Hp with ⟨⟨⟨%f0, Hd0⟩, -⟩, ⟨⟨%f1, Hd1⟩, -⟩, ⟨⟨%f2, Hd2⟩, -⟩⟩
  imod (Rounds.cell_close ER (ringRd m) (Set.mem_univ (K (c, 0))) (fun h => h) (R := 0 + 1) (duties_later m (barCell c))) $$ [HaB] with HzB
  · isplitr; · iapply (inv_at m K (c, 0)); iexact HR
    iexact HaB
  unfold owedSends
  iapply (wp_send_stage m K 0 c _ (dev4_eq c) f0 (tallyAt (recvCell 2 (dn 2 c)) () N + tallyAt (recvCell 1 (dn 1 c)) () N) (insert (SemLoc.reg barS, ()) (insert (SemLoc.dma copyS, ()) W))) $$ [Hl0 Hd0 HO HtS0 HtV0]
  · isplitr; · iexact HR
    isplitl [Hl0]; · iexact Hl0
    isplitl [Hd0]; · iexact Hd0
    isplitl [HO]; · iexact HO
    isplitl [HtS0]; · iexact HtS0
    iexact HtV0
  iintro ⟨HcS0, HO⟩
  iapply (wp_send_stage m K 1 c _ (dev5_eq c) f1 (tallyAt (recvCell 2 (dn 2 c)) () N) (insert (SemLoc.reg barS, ()) (insert (SemLoc.dma copyS, ()) W))) $$ [Hl1 Hd1 HO HtS1 HtV1]
  · isplitr; · iexact HR
    isplitl [Hl1]; · iexact Hl1
    isplitl [Hd1]; · iexact Hd1
    isplitl [HO]; · iexact HO
    isplitl [HtS1]; · iexact HtS1
    iexact HtV1
  iintro ⟨HcS1, HO⟩
  rw [← zero_add (tallyAt (recvCell 2 (dn 2 c)) () N)]
  iapply (wp_send_stage m K 2 c _ (dev6_eq c) f2 (0) (insert (SemLoc.reg barS, ()) (insert (SemLoc.dma copyS, ()) W))) $$ [Hl2 Hd2 HO HtS2 HtV2]
  · isplitr; · iexact HR
    isplitl [Hl2]; · iexact Hl2
    isplitl [Hd2]; · iexact Hd2
    isplitl [HO]; · iexact HO
    isplitl [HtS2]; · iexact HtS2
    iexact HtV2
  iintro ⟨HcS2, HO⟩
  iapply (wp_wait_recv m K 0 c (src := sM) (dst := slot 0) (slot_credit 0) _) $$ [HcV0 HO HaV0]
  · isplitr; · iexact HR
    isplitl [HcV0]; · iexact HcV0
    isplitl [HO]; · iexact HO
    iexact HaV0
  iintro ⟨HO, HzV0, Hc0⟩
  iapply (wp_wait_recv m K 2 c (src := sM) (dst := slot 2) (slot_credit 2) _) $$ [HcV2 HO HaV2]
  · isplitr; · iexact HR
    isplitl [HcV2]; · iexact HcV2
    isplitl [HO]; · iexact HO
    iexact HaV2
  iintro ⟨HO, HzV2, Hc2⟩
  iapply (wp_wait_recv m K 1 c (src := sM) (dst := slot 1) (slot_credit 1) _) $$ [HcV1 HO HaV1]
  · isplitr; · iexact HR
    isplitl [HcV1]; · iexact HcV1
    isplitl [HO]; · iexact HO
    iexact HaV1
  iintro ⟨HO, HzV1, Hc1⟩
  -- the fold
  unfold stagePts slotPts
  iapply (wp_load 𝒱₀ (c : Thread nD τ) none Set.univ (m := sM) (by rw [sM_set]; exact Finset.subset_univ _)) $$ Hs; iintro Hs
  iapply (wp_load 𝒱₀ (c : Thread nD τ) none Set.univ (m := sM) (by rw [sM_set]; exact Finset.subset_univ _)) $$ Hs; iintro Hs
  iapply (wp_load 𝒱₀ (c : Thread nD τ) none Set.univ (m := cM) (row_in_slot 0 0 inb_S4x2x256_S1x1x256_1_0_0)) $$ Hc0; iintro Hc0
  iapply (wp_load 𝒱₀ (c : Thread nD τ) none Set.univ (m := cM) (row_in_slot 0 1 inb_S4x2x256_S1x1x256_1_1_0)) $$ Hc0; iintro Hc0
  iapply (wp_load 𝒱₀ (c : Thread nD τ) none Set.univ (m := cM) (row_in_slot 1 0 inb_S4x2x256_S1x1x256_2_0_0)) $$ Hc1; iintro Hc1
  iapply (wp_load 𝒱₀ (c : Thread nD τ) none Set.univ (m := cM) (row_in_slot 1 1 inb_S4x2x256_S1x1x256_2_1_0)) $$ Hc1; iintro Hc1
  iapply (wp_load 𝒱₀ (c : Thread nD τ) none Set.univ (m := cM) (row_in_slot 2 0 inb_S4x2x256_S1x1x256_3_0_0)) $$ Hc2; iintro Hc2
  iapply (wp_load 𝒱₀ (c : Thread nD τ) none Set.univ (m := cM) (row_in_slot 2 1 inb_S4x2x256_S1x1x256_3_1_0)) $$ Hc2; iintro Hc2
  iapply (wp_load 𝒱₀ (c : Thread nD τ) none Set.univ (m := oM) (Finset.subset_univ _)) $$ Hout; iintro Hout
  iapply (wp_store 𝒱₀ (c : Thread nD τ) none Set.univ (m := oM) (r := row0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := row1) (Mk := Finset.univ) (Finset.subset_univ _)) $$ Hout; iintro Hout
  rw [write_out]
  iapply (wp_wait_send m K 0 c (src := slot 0) (dst := sM) rfl _) $$ [HcS0 HO HaS0]
  · isplitr; · iexact HR
    isplitl [HcS0]; · iexact HcS0
    isplitl [HO]; · iexact HO
    iexact HaS0
  iintro ⟨HO, HzS0, Hl0⟩
  iapply (wp_wait_send m K 1 c (src := slot 1) (dst := sM) rfl _) $$ [HcS1 HO HaS1]
  · isplitr; · iexact HR
    isplitl [HcS1]; · iexact HcS1
    isplitl [HO]; · iexact HO
    iexact HaS1
  iintro ⟨HO, HzS1, Hl1⟩
  iapply (wp_wait_send m K 2 c (src := slot 2) (dst := sM) rfl _) $$ [HcS2 HO HaS2]
  · isplitr; · iexact HR
    isplitl [HcS2]; · iexact HcS2
    isplitl [HO]; · iexact HO
    iexact HaS2
  iintro ⟨HO, HzS2, Hl2⟩
  rw [wp_ret]; imodintro
  iapply Hk
  unfold bodyPost Φ₁ zeros scratch Dat.owesAt Pipeline.owesWithin
  rw [show (dats m 0 c).owed t0_0.succ = 0 from rfl]
  isplitl [Hx HzB HzC HzS0 HzS1 HzS2 HzV0 HzV1 HzV2 Hv Hs Hl0 Hl1 Hl2 Hc0 Hc1 Hc2 Hcr]
  · isplitl [Hx]; · iexact Hx
    isplitl [HzB]; · iexact HzB
    isplitl [HzC HzS0 HzS1 HzS2 HzV0 HzV1 HzV2]
    · isplitl [HzC]; · iexact HzC
      isplitl [HzS0]; · iexact HzS0
      isplitl [HzS1]; · iexact HzS1
      isplitl [HzS2]; · iexact HzS2
      isplitl [HzV0]; · iexact HzV0
      isplitl [HzV1]; · iexact HzV1
      iexact HzV2
    isplitl [Hv]; · iexists (xF m c); rw [show vM.view.set = Finset.univ from View.set_whole _]; iexact Hv
    isplitl [Hs Hl0 Hl1 Hl2]
    · iexists (stageF m c)
      iapply (stage_join m c)
      unfold stagePts
      isplitl [Hs]; · iexact Hs
      isplitl [Hl0]; · iexact Hl0
      isplitl [Hl1]; · iexact Hl1
      iexact Hl2
    iapply (comm_join c fc (commF m c))
    unfold slotPts
    isplitl [Hc0]; · iexact Hc0
    isplitl [Hc1]; · iexact Hc1
    isplitl [Hc2]; · iexact Hc2
    iexact Hcr
  isplitl [HO]
  · iexists _
    isplitr
    on_goal 2 => iexact HO
    ipureintro; exact fun _ _ => Or.inl trivial
  iexists _; isplitr; · (ipureintro; rfl)
  iexact Hout

theorem body_obligation (c : Dev nD) : BodyObligation (dats (F := F) m 0 c) (defs₀ (F := F)) 𝒱₀ () Set.univ := fun t => by
  rw [show t = t0_0 from fin_N0 t]
  rw [bigSep_W0 (M := 𝕄), bigSep_W0 (M := 𝕄)]
  simp only [owns_whole_eq]
  show iprop(Φ₀ m c ∗ (dats m 0 c).owesAt () t0_0.castSucc ∗ (∃ d, stg c cc0_stg0_0 ((dats m 0 c).before (0 : Fin 1) t0_0 d)))
    ⊢ wp frame (wpE (defs₀ (F := F)) 𝒱₀ c none) Set.univ
      (cc0_body (Memref.whole main_arg0) (Memref.isWhole_whole _) (Memref.whole cc0_stg0_0) (Memref.isWhole_whole _)
        (Memref.whole cc0_scratch0) (Memref.isWhole_whole _) cc0_scratch1 (Memref.whole cc0_scratch2) (Memref.isWhole_whole _)
        (Memref.whole cc0_scratch3) (Memref.isWhole_whole _) cc0_scratch4 cc0_scratch5) (fun _ => bodyPost m c)
  unfold Φ₀ start
  iintro ⟨⟨⟨⟨%K, Hg⟩, Hcr, Hlev, Hx⟩, Hscr⟩, Ho, Hout⟩
  iapply (sound_body m K c fun _ => bodyPost m c)
  unfold bodyPre
  isplitr []
  · isplitl [Hg Hcr Hlev Hx Hscr]
    · isplitl [Hg]; · iexact Hg
      isplitl [Hcr]; · iexact Hcr
      isplitl [Hlev]; · iexact Hlev
      isplitl [Hx]; · iexact Hx
      iexact Hscr
    isplitl [Ho] <;> iassumption
  · iintro H; iexact H

end Body

end Cert.RingArgmax

end
-- ==== Proof.Launch.lean ====
/-
The launch: the ghost state and the credits dealt to the devices, and the run of the whole program from any memory.
-/
module

public import proofs.«01_k».proof.Proof.Body
public import Idealize.ShloMosaic.Lib.Pipeline.CollectiveSegs
public import Idealize.ShloMosaic.Lib.Pipeline.ValueKit.Geometry

@[expose] public section

set_option maxRecDepth 16384

noncomputable section

namespace Cert.RingArgmax

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide
theorem share_eq (c : Dev nD) (w : Fin cfg0.W) : (dats m 0 c).share w = fullShare := by unfold Dat.share; split <;> rfl

/-! ## Cells and tokens -/

theorem kcell_injective : Function.Injective (kcell : Dev nD × Fin 8 → GSem nD τ sig) := by
  rintro ⟨c, k⟩ ⟨c', k'⟩ h
  obtain rfl : c = c' := congrArg (fun g : GSem nD τ sig => g.1.1) h
  have h2 : ksem k = ksem k' := congrArg Prod.snd h
  have : ∀ a b : Fin 8, ksem a = ksem b → a = b := by decide
  rw [this k k' h2]

def ringCells : Finset (GSem nD τ sig) := Finset.univ.map ⟨kcell, kcell_injective⟩

/-- The duties of a device's cells, numbered: the barrier's three, then one for each other cell. -/
abbrev tokSem : Fin 10 → SemLoc sig × Fin 3 := fun
  | 0 => (.reg barS, 0) | 1 => (.reg barS, 1) | 2 => (.reg barS, 2) | 3 => (.dma copyS, 0)
  | 4 => (.dma (sendS 0), 0) | 5 => (.dma (sendS 1), 0) | 6 => (.dma (sendS 2), 0)
  | 7 => (.dma (recvS 0), 0) | 8 => (.dma (recvS 1), 0) | 9 => (.dma (recvS 2), 0)
abbrev tokOf (cj : Dev nD × Fin 10) : GSem nD τ sig × ℕ × Fin 3 := (((cj.1 : Thread nD τ), (tokSem cj.2).1), 0, (tokSem cj.2).2)
theorem tokOf_injective : Function.Injective (tokOf : Dev nD × Fin 10 → GSem nD τ sig × ℕ × Fin 3) := by
  rintro ⟨c, j⟩ ⟨c', j'⟩ h
  obtain rfl : c = c' := congrArg (fun x : GSem nD τ sig × ℕ × Fin 3 => x.1.1.1) h
  have h2 : tokSem j = tokSem j' := congrArg (fun x : GSem nD τ sig × ℕ × Fin 3 => (x.1.2, x.2.2)) h
  have : ∀ a b : Fin 10, tokSem a = tokSem b → a = b := by decide
  rw [this j j' h2]
def ringToks : Finset (GSem nD τ sig × ℕ × Fin 3) := Finset.univ.map ⟨tokOf, tokOf_injective⟩

def u₀ : UU := (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 0 ∗ dutyTok ER (barCell c) 0 1 ∗ dutyTok ER (barCell c) 0 2)
    ∗ dutyTok ER (copyCell c) 0 0
    ∗ (dutyTok ER (sendCell 0 c) 0 0 ∗ dutyTok ER (sendCell 1 c) 0 0 ∗ dutyTok ER (sendCell 2 c) 0 0)
    ∗ (dutyTok ER (recvCell 0 c) 0 0 ∗ dutyTok ER (recvCell 1 c) 0 0 ∗ dutyTok ER (recvCell 2 c) 0 0))

def G (c : Dev nD) : sProp 𝕄 :=
  iprop((bigSep Finset.univ fun k : Fin 8 => roundState ER (ringRd m) (kcell (c, k)) 0)
    ∗ (bigSep Finset.univ fun k : Fin 8 => iprop(atPos ER (kcell (c, k)) 0 ∅ 0 ∗ reached ER (kcell (c, k)) 0)) ∗ toks c)
def G' (c : Dev nD) : sProp 𝕄 := iprop(∃ K, ghost m K c)

omit [FloatOps F] in
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

omit [FloatOps F] in
theorem toks_intro (c : Dev nD) :
    (bigSep Finset.univ fun j : Fin 10 => (dutyTok ER (tokOf (c, j)).1 (tokOf (c, j)).2.1 (tokOf (c, j)).2.2 : sProp 𝕄)) ⊢ toks c := by
  rw [bigSep_ten]
  unfold toks
  iintro ⟨H0, H1, H2, H3, H4, H5, H6, H7, H8, H9⟩
  isplitl [H0 H1 H2]
  · isplitl [H0]; · iexact H0
    isplitl [H1]; · iexact H1
    iexact H2
  isplitl [H3]; · iexact H3
  isplitl [H4 H5 H6]
  · isplitl [H4]; · iexact H4
    isplitl [H5]; · iexact H5
    iexact H6
  isplitl [H7]; · iexact H7
  isplitl [H8]; · iexact H8
  iexact H9

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 8 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_intro c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The semaphores at launch and at the end -/

omit [FloatOps F] in
theorem ownSems0_eq (c : Dev nD) : (Pipeline.ownSems0 (Ix := Unit) (Name := ℕ) (U := UU) (Lvl := ℕ) (Val := Elt F) (τ := τ) osem c : sProp 𝕄) = zeros c := by
  rw [Pipeline.ownSems0_eq_of_list c osem [0, 1, 2, 3, 4, 5, 6] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_intro (c : Dev nD) :
    iprop(Pipeline.ownSems0 (Ix := Unit) (Name := ℕ) (U := UU) (Lvl := ℕ) (Val := Elt F) (τ := τ) osem c ∗ unscopedSems0 c)
      ⊢ (bigSep Finset.univ fun k : Fin 8 => semVal (kcell (c, k)) 0 : sProp 𝕄) := by
  rw [ownSems0_eq, unscopedSems0_eq, bigSep_eight]
  unfold zeros
  iintro ⟨Hz, HB⟩
  isplitl [HB]; · iexact HB
  iexact Hz

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hv, Hu, Hst, Hat, Htok⟩
  ihave Hs := (sems0_intro (F := F) c) $$ [Hv Hu]
  · isplitl [Hv] <;> iassumption
  imod (show iprop((bigSep Finset.univ fun k : Fin 8 => semVal (kcell (c, k)) 0) ∗ bigSep Finset.univ fun k : Fin 8 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hs Hst] with Hinv
  · isplitl [Hs] <;> iassumption
  imodintro
  isplitl [Hinv]; · iexact Hinv
  isplitl [Hat]; · iexact Hat
  iexact Htok

/-! ## Dealing the tokens -/

omit [FloatOps F] in
/-- Each duty's token to the device that discharges it. -/
theorem toks_around : (bigSep Finset.univ fun c : Dev nD => (toks c : sProp 𝕄)) ⊢ bigSep Finset.univ fun c : Dev nD => payToks c := by
  have hB (d : Fin 3) : (bigSep Finset.univ fun c : Dev nD => (dutyTok ER (barCell c) 0 d : sProp 𝕄)) ⊢ bigSep Finset.univ fun c : Dev nD => dutyTok ER (barCell (up d c)) 0 d :=
    Entails.of_eq (bigSep_univ_equiv (turn d) (fun c : Dev nD => (dutyTok ER (barCell c) 0 d : sProp 𝕄)))
  have hV (r : Fin 3) : (bigSep Finset.univ fun c : Dev nD => (dutyTok ER (recvCell r c) 0 0 : sProp 𝕄)) ⊢ bigSep Finset.univ fun c : Dev nD => dutyTok ER (recvCell r (dn r c)) 0 0 :=
    Entails.of_eq (bigSep_univ_equiv (turn r).symm (fun c : Dev nD => (dutyTok ER (recvCell r c) 0 0 : sProp 𝕄)))
  unfold toks payToks
  simp only [bigSep_sep']
  iintro ⟨⟨HB0, HB1, HB2⟩, HC, HS, ⟨HV0, HV1, HV2⟩⟩
  isplitl [HB0 HB1 HB2]
  · isplitl [HB0]; · iapply (hB 0); iexact HB0
    isplitl [HB1]; · iapply (hB 1); iexact HB1
    iapply (hB 2); iexact HB2
  isplitl [HC]; · iexact HC
  isplitl [HS]; · iexact HS
  isplitl [HV0]; · iapply (hV 0); iexact HV0
  isplitl [HV1]; · iapply (hV 1); iexact HV1
  iapply (hV 2); iexact HV2

omit [FloatOps F] in
theorem posns_intro (c : Dev nD) : (bigSep Finset.univ fun k : Fin 8 => (atPos ER (kcell (c, k)) 0 ∅ 0 : sProp 𝕄)) ⊢ posns c := by
  rw [bigSep_eight]
  unfold posns
  iintro ⟨H0, H1, H2, H3, H4, H5, H6, H7⟩
  isplitl [H0]; · iexact H0
  isplitl [H1]; · iexact H1
  isplitl [H2 H3 H4]
  · isplitl [H2]; · iexact H2
    isplitl [H3]; · iexact H3
    iexact H4
  isplitl [H5]; · iexact H5
  isplitl [H6]; · iexact H6
  iexact H7

omit [FloatOps F] in
/-- Something that can be used again and again goes to every member. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 8 => iprop(∃ κ : ℕ, cellInv ER (ringRd m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (ringRd m) κ (kcell ck) : sProp 𝕄))) $$ HI
  icases HK with ⟨%K, #HI⟩
  ihave Htk := (toks_around (F := F)) $$ Htok
  have step (c : Dev nD) : iprop(records m K ∗ ((bigSep Finset.univ fun k : Fin 8 => (atPos ER (kcell (c, k)) 0 ∅ 0 : sProp 𝕄)) ∗ payToks c)) ⊢ G' m c := by
    unfold G' ghost
    iintro ⟨Hrec, Ha, Ht⟩
    iexists K
    isplitl [Hrec]; · iexact Hrec
    isplitl [Ha]; · iapply (posns_intro (F := F) c); iexact Ha
    iexact Ht
  iapply (share_out (R := records m K) fun c _ => step c)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cell_eq_iff {a b : Dev nD} {sm sm' : SemLoc sig} : Iff ((((a : Thread nD τ), sm) : GSem nD τ sig) = ((b : Thread nD τ), sm')) (a = b ∧ sm = sm') :=
  ⟨fun h => ⟨congrArg (fun g : GSem nD τ sig => g.1.1) h, congrArg Prod.snd h⟩, fun h => by rw [h.1, h.2]⟩

theorem recv_ne_bar (r : Fin 3) : (SemLoc.dma (recvS r) : SemLoc sig) ≠ .reg barS := fun h => by cases h
theorem recvS_inj : ∀ r r' : Fin 3, (SemLoc.dma (recvS r) : SemLoc sig) = .dma (recvS r') → r = r' := by decide

theorem tally_bar (r : Fin 3) (d c : Dev nD) : (tallyAt (barCell (up r d)) () 1 : CellTallies nD τ sig Unit) (barCell c) () = if up r d = c then 1 else 0 := by
  rw [tallyAt_apply]
  by_cases h : up r d = c
  · rw [if_pos h, if_pos ⟨by rw [h], rfl⟩]
  · rw [if_neg h, if_neg fun h' => h (cell_eq_iff.mp h'.1).1.symm]
theorem tally_recv_bar (r : Fin 3) (d c : Dev nD) : (tallyAt (recvCell r (dn r d)) () N : CellTallies nD τ sig Unit) (barCell c) () = 0 := by
  rw [tallyAt_apply, if_neg fun h' => recv_ne_bar r (cell_eq_iff.mp h'.1).2.symm]
theorem tally_bar_recv (r r' : Fin 3) (d c : Dev nD) : (tallyAt (barCell (up r d)) () 1 : CellTallies nD τ sig Unit) (recvCell r' c) () = 0 := by
  rw [tallyAt_apply, if_neg fun h' => recv_ne_bar r' (cell_eq_iff.mp h'.1).2]
theorem tally_recv (r r' : Fin 3) (d c : Dev nD) : (tallyAt (recvCell r (dn r d)) () N : CellTallies nD τ sig Unit) (recvCell r' c) ()
    = if r = r' ∧ dn r d = c then N else 0 := by
  rw [tallyAt_apply]
  by_cases h : r = r' ∧ dn r d = c
  · obtain ⟨rfl, rfl⟩ := h
    rw [if_pos ⟨rfl, rfl⟩, if_pos ⟨rfl, rfl⟩]
  · rw [if_neg h, if_neg fun h' => h ⟨(recvS_inj _ _ (cell_eq_iff.mp h'.1).2).symm, (cell_eq_iff.mp h'.1).1.symm⟩]

theorem owed_bar (d c : Dev nD) : O₀ d (barCell c) () = (if up 2 d = c then 1 else 0) + (if up 1 d = c then 1 else 0) + (if up 0 d = c then 1 else 0) := by
  unfold O₀ owedSends
  simp only [Pi.add_apply, Finsupp.add_apply]
  rw [tally_recv_bar 0 d c, tally_recv_bar 1 d c, tally_recv_bar 2 d c, tally_bar 0 d c, tally_bar 1 d c, tally_bar 2 d c]
  simp only [Nat.zero_add]
theorem owed_recv (r : Fin 3) (d c : Dev nD) : O₀ d (recvCell r c) () = if dn r d = c then N else 0 := by
  unfold O₀ owedSends
  simp only [Pi.add_apply, Finsupp.add_apply]
  rw [tally_recv 0 r d c, tally_recv 1 r d c, tally_recv 2 r d c, tally_bar_recv 0 r d c, tally_bar_recv 1 r d c, tally_bar_recv 2 r d c]
  simp only [Nat.add_zero]
  have off {a b : Fin 3} (h : a ≠ b) (e : Dev nD) : (if a = b ∧ e = c then N else 0) = 0 := if_neg fun h' => h h'.1
  have on (a : Fin 3) (e : Dev nD) : (if a = a ∧ e = c then N else 0) = if e = c then N else 0 := if_congr (and_iff_right rfl) rfl rfl
  match r with
  | 0 => rw [off (show (2 : Fin 3) ≠ 0 by decide), off (show (1 : Fin 3) ≠ 0 by decide), on 0, Nat.zero_add]
  | 1 => rw [off (show (2 : Fin 3) ≠ 1 by decide), off (show (0 : Fin 3) ≠ 1 by decide), on 1, Nat.zero_add, Nat.add_zero]
  | 2 => rw [off (show (1 : Fin 3) ≠ 2 by decide), off (show (0 : Fin 3) ≠ 2 by decide), on 2, Nat.add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (r : Fin 3) (c : Dev nD) :
    tallyOn (recvCell r c) (launchCredit (Pipeline.owing O₀) 0 (recvCell r c)) = (tallyAt (recvCell r c) () N : CellTallies nD τ sig Unit) := by
  unfold tallyAt; refine congrArg _ (Finsupp.ext fun u => ?_); cases u
  have h (d : Dev nD) : (dn r d = c) = (d = up r c) :=
    propext ⟨fun e => by rw [← e, up_dn], fun e => by rw [e, dn_up]⟩
  rw [Pipeline.launchCredit_owing, Finsupp.single_eq_same, Finset.sum_congr rfl fun d _ => owed_recv r d c]
  simp only [h]
  rw [Finset.sum_ite_eq' Finset.univ (up r c) fun _ => N, if_pos (Finset.mem_univ _)]

omit [FloatOps F] in
theorem launch_creds (c : Dev nD) : (Pipeline.launchCred O₀ c : sProp 𝕄) ⊢ creds c := by
  unfold Pipeline.launchCred creds
  rw [bigSep_univ_at _ (SemLoc.reg barS), launch_bar]
  refine sep_mono_right ?_
  rw [← launch_recv 0, ← launch_recv 1, ← launch_recv 2]
  have three (S : Finset (SemLoc sig)) (Φ : SemLoc sig → sProp 𝕄) (h : ∀ r, SemLoc.dma (recvS r) ∈ S) :
      bigSep S Φ ⊢ iprop(Φ (.dma (recvS 0)) ∗ Φ (.dma (recvS 1)) ∗ Φ (.dma (recvS 2))) := by
    rw [← bigSep_three (fun r => Φ (.dma (recvS r)))]
    have e : (bigSep Finset.univ fun r : Fin 3 => Φ (.dma (recvS r))) = bigSep (Finset.univ.map ⟨fun r : Fin 3 => (SemLoc.dma (recvS r) : SemLoc sig), fun a b => recvS_inj a b⟩) Φ := by
      rw [bigSep_map]; rfl
    rw [e]
    refine bigSep_subset ?_
    intro x hx
    obtain ⟨r, -, rfl⟩ := Finset.mem_map.mp hx
    exact h r
  exact three _ _ fun r => Finset.mem_erase.mpr ⟨recv_ne_bar r, Finset.mem_univ _⟩

/-! ## Entering and leaving the region -/

omit [FloatOps F] in
theorem xPts_eq (c : Dev nD) : xPts (F := F) m c = (((c : Thread nD τ).loc main_arg0) ↦{fullShare} m ((c : Thread nD τ).loc main_arg0) : sProp 𝕄) := by
  unfold xPts; rw [View.set_whole]; rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (launch_creds (F := F) c) $$ Hcr
  imodintro
  unfold start G'
  rw [xPts_eq]
  isplitl
  · isplitl [HG]; · iexact HG
    isplitl [Hc]; · iexact Hc
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What a device ends with besides the pipeline's own: its barrier at zero and its block as it was. -/
def leave (c : Dev nD) : sProp 𝕄 := iprop(unscopedSems0 c ∗ xPts m c)

theorem phi1_exit (c : Dev nD) :
    (dats m 0 c).Φ (Fin.last cfg0.N) ⊢ iprop(leave m c ∗ Pipeline.ownSems0 osem c ∗ Pipeline.scopedRest cfg0.spec c) := by
  rw [show (dats m 0 c).Φ (Fin.last cfg0.N) = Φ₁ m c from rfl, scopedRest0_eq, ownSems0_eq]
  unfold Φ₁ leave scratch
  rw [unscopedSems0_eq]
  iintro ⟨Hx, HzB, Hz, Hs⟩
  isplitl [Hx HzB]
  · isplitl [HzB] <;> iassumption
  isplitl [Hz]; · iexact Hz
  iexact Hs

/-- Reading it off the final state. -/
theorem leave_read (c : Dev nD) (s' : Phys nD τ sig (Elt F)) :
    iprop(leave m c ∗ emp ∗ SI s')
      ⊢ |={Set.univ}=> iprop(⌜(∀ sm : SemLoc sig, sm.isScoped .tc = false → s'.mem.sem ((c.tc : Thread nD τ), sm) = 0)
            ∧ s'.mem.mem ((c : Thread nD τ).loc main_arg0) = m ((c : Thread nD τ).loc main_arg0)⌝ ∗ SI s') := by
  unfold leave
  rw [xPts_eq]
  iintro ⟨⟨Hu, Hx⟩, -, HSI⟩
  icombine HSI Hx gives %hx
  imod (Pipeline.unscopedSems0_read (X := unscopedSems0 c) (c := c) fupd_intro s') $$ [Hu HSI] with ⟨%hu, HSI⟩
  · isplitl [Hu] <;> iassumption
  imodintro
  isplitr; · ipureintro; exact ⟨hu, Buf.eq_of_forall_mem_univ hx⟩
  iexact HSI

theorem waits (c : Dev nD) : (levAts L lv : sProp 𝕄) ⊢ Pipeline.cellsWaits cfgs (dats m) () 0 c :=
  Pipeline.cellsWaits_intro cfgs (dats m) () 0 c fun w s t =>
    mayWait_low c _ (fun u => by revert w s u; decide +revert) _ (by
      rcases t with ⟨_ | _, ht⟩
      · exact Or.inl rfl
      · exact Or.inr (Or.inr rfl))

/-! ## The run -/

/-- The result array after the run holds the fold the body left in its staging buffer. -/
theorem final_out (c : Dev nD) : (dats m 0 c).arrAt (0 : Fin 1) cfg0.N = outF m c := by
  refine (dats m 0 c).arrAt_eq_of_after_last 0 t0_0 (by decide +kernel) _ fun j => ?_
  rfl

/-- What every final state satisfies. -/
def Final (r : PUnit × MemSt nD τ sig (Elt F)) : Prop :=
  (∀ c : Dev nD, r.2.mem ((c : Thread nD τ).loc main_v1) = outF m c ∧ r.2.mem ((c : Thread nD τ).loc main_arg0) = m ((c : Thread nD τ).loc main_arg0))
    ∧ r.2.sem = fun _ => 0

/-- For any float values, from any memory with zero counters: every weakly fair execution of the program terminates,
    and in every final state each device's result array holds the fold of the four stages, its block is unchanged, and
    every semaphore counter is zero. -/
theorem run_main : θ_run defs (onTc (τ := τ) (main (F := F))) (s₀ m ρ) (Final m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := leave m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := leave_read m)
    (hQ := fun _ h hs => ⟨fun c => ⟨((h c).1 (0 : Fin 1)).trans (final_out m c), (h c).2.2.2⟩, sem_eq_zero hs fun c => (h c).2.2.1⟩)

end Cert.RingArgmax

end
-- ==== Proof.Best.lean ====
/-
The mathematics both programs share, with no program in it: the greatest value of a column over a set of rows together
with the first row that attains it. It is unique, the best of a union is the better of the two bests, and a fold whose
step keeps the better of its two arguments ends at one of them that is at least as good as all.
-/
module

public import Idealize.ShloMosaic.PureOps.Ideal

@[expose] public section

noncomputable section

namespace Cert.RingArgmax

/-- `v` is the greatest value of the column `y` over the rows `S`, and `e` is (as an extended real) the first row of `S` where it is attained. -/
def Best (y : ℕ → EReal) (S : Set ℕ) (v e : EReal) : Prop :=
  ∃ i : ℕ, e = ((i : ℝ) : EReal) ∧ i ∈ S ∧ y i = v ∧ ∀ n ∈ S, y n ≤ v ∧ (y n = v → i ≤ n)

theorem coe_row_lt (i j : ℕ) : ((i : ℝ) : EReal) < ((j : ℝ) : EReal) ↔ i < j := by
  rw [EReal.coe_lt_coe_iff, Nat.cast_lt]

/-- There is at most one best value and at most one first row. -/
theorem Best.unique {y : ℕ → EReal} {S : Set ℕ} {v e w d : EReal} (h : Best y S v e) (h' : Best y S w d) : v = w ∧ e = d := by
  obtain ⟨i, rfl, hi, rfl, hS⟩ := h
  obtain ⟨j, rfl, hj, rfl, hS'⟩ := h'
  have hv : y i = y j := le_antisymm (hS' i hi).1 (hS j hj).1
  have hij : i = j := Nat.le_antisymm ((hS j hj).2 hv.symm) ((hS' i hi).2 hv)
  exact ⟨hv, by rw [hij]⟩

/-- The second of two bests is taken when its value is greater, or equal with an earlier row. -/
def Takes (v e w d : EReal) : Prop := v < w ∨ (w = v ∧ d < e)

open Classical in
/-- The better of two bests is the best of the union. -/
theorem Best.union {y : ℕ → EReal} {S T : Set ℕ} {v e w d : EReal} (h : Best y S v e) (h' : Best y T w d) :
    Best y (S ∪ T) (if Takes v e w d then w else v) (if Takes v e w d then d else e) := by
  obtain ⟨i, rfl, hi, rfl, hS⟩ := h
  obtain ⟨j, rfl, hj, rfl, hT⟩ := h'
  by_cases ht : Takes (y i) ((i : ℝ) : EReal) (y j) ((j : ℝ) : EReal)
  · rw [if_pos ht, if_pos ht]
    refine ⟨j, rfl, Or.inr hj, rfl, fun n hn => ?_⟩
    rcases hn with hn | hn
    · rcases ht with hlt | ⟨heq, hlt⟩
      · exact ⟨le_trans (hS n hn).1 hlt.le, fun e => absurd (hS n hn).1 (not_le_of_gt (by rw [e]; exact hlt))⟩
      · refine ⟨by rw [heq]; exact (hS n hn).1, fun e => ?_⟩
        exact Nat.le_trans ((coe_row_lt j i).mp hlt).le ((hS n hn).2 (e.trans heq))
    · exact hT n hn
  · rw [if_neg ht, if_neg ht]
    refine ⟨i, rfl, Or.inl hi, rfl, fun n hn => ?_⟩
    rcases hn with hn | hn
    · exact hS n hn
    · have hle : y j ≤ y i := le_of_not_gt fun hlt => ht (Or.inl hlt)
      refine ⟨le_trans (hT n hn).1 hle, fun e => ?_⟩
      have hji : y j = y i := le_antisymm hle (by rw [← e]; exact (hT n hn).1)
      have hij : ¬ j < i := fun hlt => ht (Or.inr ⟨hji, (coe_row_lt j i).mpr hlt⟩)
      exact Nat.le_trans (Nat.le_of_not_lt hij) ((hT n hn).2 (e.trans hji.symm))

/-- A fold whose step returns one of its two arguments, at least as good as both, ends at its start or at a member of
    the list, and what it ends at is at least as good as the start and every member. -/
theorem foldl_best {α β : Type} (good : α → α → Prop) (hr : ∀ a, good a a) (ht : ∀ a b c, good a b → good b c → good a c)
    (f : α → α → α) (hf : ∀ a b, (f a b = a ∨ f a b = b) ∧ good (f a b) a ∧ good (f a b) b) (g : β → α) :
    ∀ (l : List β) (a : α), ((l.foldl (fun r n => f r (g n)) a = a ∨ ∃ n ∈ l, l.foldl (fun r n => f r (g n)) a = g n)
      ∧ good (l.foldl (fun r n => f r (g n)) a) a ∧ ∀ n ∈ l, good (l.foldl (fun r n => f r (g n)) a) (g n))
  | [], a => ⟨Or.inl rfl, hr a, fun _ h => nomatch h⟩
  | n :: l, a => by
      obtain ⟨hsel, hstart, hall⟩ := foldl_best good hr ht f hf g l (f a (g n))
      obtain ⟨hstep, ha, hn⟩ := hf a (g n)
      refine ⟨?_, ht _ _ _ hstart ha, ?_⟩
      · rcases hsel with h | ⟨k, hk, h⟩
        · rcases hstep with h' | h'
          · exact Or.inl (h.trans h')
          · exact Or.inr ⟨n, List.mem_cons_self, h.trans h'⟩
        · exact Or.inr ⟨k, List.mem_cons_of_mem _ hk, h⟩
      · intro k hk
        rcases List.mem_cons.mp hk with rfl | hk
        · exact ht _ _ _ hstart hn
        · exact hall k hk

end Cert.RingArgmax

end
-- ==== Proof.Local.lean ====
/-
What one device stages, over the extended reals: per column of its block the best value and the first row that attains
it, the row counted from the top of the whole array.
-/
module

public import proofs.«01_k».proof.Proof.Best
public import proofs.«01_k».proof.Proof.Protocol
public import Idealize.ShloMosaic.PureOps.Reduce
public import Idealize.ShloMosaic.Lib.ValueIdx
public import Idealize.ShloMosaic.Lib.ValueLayout

@[expose] public section

set_option maxRecDepth 16384

noncomputable section

namespace Cert.RingArgmax

open Cert.KernelIdeal Cert.KernelIdeal.Gen
open Idealize.ShloMosaic Idealize.ShloMosaic.ValueIdx

/-! ## Constants and words -/

theorem neg_inf : Ideal.ofBits .f32 0xFF800000#32 = ⊥ := by simp [Ideal.ofBits, Ideal.ieee]
theorem two_fifty_six : Ideal.ofBits .f32 0x43800000#32 = ((256 : ℝ) : EReal) := by
  simp [Ideal.ofBits, Ideal.ieee, -EReal.coe_mul]; norm_num

theorem cmp_eq (a b : EReal) : (Ideal.cmp .oeq a b = 1#1) = (a = b) := by
  by_cases h : a = b <;> simp [Ideal.cmp, h]
theorem cmp_gt (a b : EReal) : (Ideal.cmp .ogt a b = 1#1) = (b < a) := by
  by_cases h : b < a <;> simp [Ideal.cmp, h]
theorem cmp_lt (a b : EReal) : (Ideal.cmp .olt a b = 1#1) = (a < b) := by
  by_cases h : a < b <;> simp [Ideal.cmp, h]

theorem or_one : ∀ a b : BitVec 1, (IntOp.ori a b = 1#1) = (a = 1#1 ∨ b = 1#1) := by decide
theorem and_one : ∀ a b : BitVec 1, (IntOp.andi a b = 1#1) = (a = 1#1 ∧ b = 1#1) := by decide

/-- A row number as a word, read back. -/
theorem toInt_row (n : ℕ) (h : n < 2048) : (BitVec.ofNat 32 n).toInt = (n : ℤ) := by
  rw [BitVec.toInt_eq_toNat_of_lt] <;> rw [BitVec.toNat_ofNat] <;> omega

/-- The lesser of two words is one of them and at most both. -/
theorem minsi_best (a b : BitVec 32) :
    (IntOp.minsi a b = a ∨ IntOp.minsi a b = b) ∧ (IntOp.minsi a b).toInt ≤ a.toInt ∧ (IntOp.minsi a b).toInt ≤ b.toInt := by
  simp only [IntOp.minsi, BitVec.slt, decide_eq_true_eq]
  split_ifs with h
  · exact ⟨Or.inl rfl, le_refl _, h.le⟩
  · exact ⟨Or.inr rfl, not_lt.mp h, le_refl _⟩

/-- The greater of two extended reals is one of them and at least both. -/
theorem max_best (a b : EReal) : (max a b = a ∨ max a b = b) ∧ a ≤ max a b ∧ b ≤ max a b :=
  ⟨max_choice a b, le_max_left a b, le_max_right a b⟩

/-- The maximum of a list that is not empty bounds it and is one of its members. -/
theorem foldl_max {β : Type} (g : β → EReal) (l : List β) (n₀ : β) (h₀ : n₀ ∈ l) :
    (∀ n ∈ l, g n ≤ l.foldl (fun r n => max r (g n)) ⊥) ∧ ∃ n ∈ l, g n = l.foldl (fun r n => max r (g n)) ⊥ := by
  obtain ⟨hsel, -, hall⟩ := foldl_best (fun a b : EReal => b ≤ a) le_refl (fun a b c h h' => le_trans h' h) max max_best g l ⊥
  refine ⟨hall, ?_⟩
  rcases hsel with h | ⟨n, hn, h⟩
  · exact ⟨n₀, h₀, by rw [h]; exact le_bot_iff.mp (by rw [← h]; exact hall n₀ h₀)⟩
  · exact ⟨n, hn, h.symm⟩

/-! ## One column of a block -/

variable (x : S256x256.Idx → EReal) (b : Fin 256)

/-- The block's indices in column `b`. -/
abbrev colList : List S256x256.Idx :=
  ((List.finRange S256x256.numel).map S256x256.rowMajor.symm).filter fun i => reduces_S256x256_S256.drop i = ix1 b

theorem mem_colList (i : S256x256.Idx) : i ∈ colList b ↔ ∃ r : Fin 256, i = ix2 r b := by
  simp only [colList, List.mem_filter, List.mem_map, List.mem_finRange, true_and, decide_eq_true_eq]
  constructor
  · rintro ⟨-, h⟩
    refine ⟨i 0, (eq_ix2 (n0 := 256) (n1 := 256) i).trans (congrArg (ix2 (i 0)) (Fin.ext ?_))⟩
    have h1 := Shape.Reduces.drop_apply_val_of_eq reduces_S256x256_S256 i 0 1
    rw [h] at h1
    exact h1.symm
  · rintro ⟨r, rfl⟩
    refine ⟨⟨S256x256.rowMajor (ix2 r b), Equiv.symm_apply_apply _ _⟩, ?_⟩
    funext d
    apply Fin.ext
    match d with
    | ⟨0, _⟩ => exact Shape.Reduces.drop_apply_val_of_eq reduces_S256x256_S256 (ix2 r b) 0 1

theorem ix2_mem_colList (r : Fin 256) : (ix2 r b : S256x256.Idx) ∈ colList b := (mem_colList b _).mpr ⟨r, rfl⟩

/-- The column's maximum, as the kernel folds it. -/
def colTop : EReal := (colList b).foldl (fun r i => max r (x i)) ⊥

theorem colTop_spec : (∀ r : Fin 256, x (ix2 r b) ≤ colTop x b) ∧ ∃ r : Fin 256, x (ix2 r b) = colTop x b := by
  obtain ⟨hall, i, hi, he⟩ := foldl_max x (colList b) (ix2 (0 : Fin 256) b) (ix2_mem_colList b 0)
  obtain ⟨r, rfl⟩ := (mem_colList b i).mp hi
  exact ⟨fun r => hall _ (ix2_mem_colList b r), r, he⟩

set_option backward.isDefEq.respectTransparency false in
theorem pay5_apply : k0_pay5 (F := Ideal) x (ix2 (0 : Fin 1) b) = colTop x b := by
  unfold k0_pay5
  dsimp only
  rw [shapeCast_a_1a_apply, multiReduction_maximumf_eq_reduceFold, reduceFold_eq_foldl,
    show (FloatOps.ofBits .f32 0xFF800000#32 : Ideal .f32) = ⊥ from neg_inf]
  rfl

theorem pay6_apply : k0_pay6 (F := Ideal) x (ix2 (0 : Fin 1) b) = colTop x b := by
  unfold k0_pay6
  rw [shapeCast_apply _ _ _ (ix2 (0 : Fin 1) b) rfl, pay5_apply]

/-- The word the kernel folds at an index: its row where the maximum is attained, else 256. -/
def rowWord (i : S256x256.Idx) : BitVec 32 := if x i = colTop x b then BitVec.ofNat 32 (i 0).val else 256#32

/-- The words the kernel takes the least of, as it computes them. -/
abbrev words : IVec S256x256 32 :=
  select (cmpf (F := Ideal) (φ := .f32) .oeq x (broadcastTo S256x256 (k0_pay5 (F := Ideal) x) broadcasts_S1x256_S256x256))
    (iota .tc S256x256 32 [0] iota_S256x256_d0_w32) (broadcast S256x256 256#32)

theorem words_apply (r : Fin 256) : words x (ix2 r b) = rowWord x b (ix2 r b) := by
  have hb : broadcastTo S256x256 (k0_pay5 (F := Ideal) x) broadcasts_S1x256_S256x256 (ix2 r b) = colTop x b := by
    rw [broadcastTo_1b_ab_apply, pay5_apply]
  unfold words
  rw [select_apply, cmpf_apply, broadcast_apply, Scalar.select, hb, iota_single_apply]
  unfold rowWord
  exact if_congr (iff_of_eq (cmp_eq _ _)) rfl rfl

/-- The fold of two functions that agree on the list is one fold. -/
theorem foldl_agree {α β : Type} (f : α → α → α) (g g' : β → α) : ∀ (l : List β) (a : α), (∀ n ∈ l, g n = g' n) →
    l.foldl (fun r n => f r (g n)) a = l.foldl (fun r n => f r (g' n)) a
  | [], _, _ => rfl
  | n :: l, a, h => by
      rw [List.foldl_cons, List.foldl_cons, h n List.mem_cons_self]
      exact foldl_agree f g g' l _ fun k hk => h k (List.mem_cons_of_mem _ hk)

/-- The least of the column's row words. -/
def firstWord : BitVec 32 := (colList b).foldl (fun r i => IntOp.minsi r (rowWord x b i)) 2147483647#32

set_option backward.isDefEq.respectTransparency false in
theorem least_words : multiReductionI .minsi [0] S256 (words x) 2147483647#32 reduces_S256x256_S256 rfl (ix1 b) = firstWord x b := by
  rw [multiReductionI_eq_reduceFold, reduceFold_eq_foldl]
  exact foldl_agree IntOp.minsi (words x) (rowWord x b) (colList b) 2147483647#32 fun i hi => by
    obtain ⟨r, rfl⟩ := (mem_colList b i).mp hi
    exact words_apply x b r

set_option backward.isDefEq.respectTransparency false in
theorem pay7_apply (w : BitVec 32) :
    k0_pay7 (F := Ideal) w x (ix2 (0 : Fin 1) b) = (((firstWord x b).toInt : ℝ) : EReal) + (((w.toInt : ℝ) : EReal) * ((256 : ℝ) : EReal)) := by
  unfold k0_pay7
  dsimp only
  rw [shapeCast_apply _ _ _ (ix2 (0 : Fin 1) b) rfl, addf_apply, sitofp_apply, broadcast_apply, shapeCast_a_1a_apply, ← two_fifty_six,
    ← least_words x b]
  rfl

/-- The least of the column's row words is the first row where the maximum is attained. -/
theorem first_row : ∃ r : Fin 256, (firstWord x b).toInt = (r.val : ℤ)
    ∧ x (ix2 r b) = colTop x b ∧ ∀ s : Fin 256, x (ix2 s b) = colTop x b → r ≤ s := by
  obtain ⟨hsel, -, hall⟩ := foldl_best (fun a b : BitVec 32 => a.toInt ≤ b.toInt) (fun a => le_refl _) (fun a b c => le_trans)
    IntOp.minsi minsi_best (rowWord x b) (colList b) 2147483647#32
  change firstWord x b = _ ∨ ∃ n ∈ _, firstWord x b = _ at hsel
  change ∀ n ∈ _, (firstWord x b).toInt ≤ _ at hall
  generalize firstWord x b = w at hsel hall ⊢
  have hw : ∀ s : Fin 256, x (ix2 s b) = colTop x b → w.toInt ≤ (s.val : ℤ) := by
    intro s hs
    have := hall (ix2 s b) (ix2_mem_colList b s)
    unfold rowWord at this
    rw [if_pos hs] at this
    rwa [toInt_row _ (by have := s.isLt; show (s.val : ℕ) < 2048; omega)] at this
  obtain ⟨-, s₀, hs₀⟩ := colTop_spec x b
  have hlt : w.toInt < 256 := by have := hw s₀ hs₀; have := s₀.isLt; omega
  rcases hsel with h | ⟨i, hi, h⟩
  · rw [h] at hlt; exact absurd hlt (by decide)
  · obtain ⟨r, rfl⟩ := (mem_colList b i).mp hi
    by_cases hx : x (ix2 r b) = colTop x b
    · unfold rowWord at h
      rw [if_pos hx] at h
      have hrw : w.toInt = (r.val : ℤ) := by
        rw [h]; exact toInt_row _ (by have := r.isLt; show (r.val : ℕ) < 2048; omega)
      refine ⟨r, hrw, hx, fun s hs => ?_⟩
      have := hw s hs
      rw [hrw] at this
      exact Fin.le_def.mpr (by omega)
    · unfold rowWord at h
      rw [if_neg hx] at h
      rw [h] at hlt; exact absurd hlt (by decide)

/-! ## A device's stage -/

/-- The rows of block `c` of the whole array. -/
def blockRows (c : ℕ) : Set ℕ := {n | c * 256 ≤ n ∧ n < c * 256 + 256}

theorem place_toInt : ∀ c : Dev nD, (place c).toInt = (c.val : ℤ) := by decide

/-- The two staged rows at a column, for a block read off the column `y` of the whole array. -/
theorem stage_best (c : Dev nD) (y : ℕ → EReal) (h : ∀ r : Fin 256, x (ix2 r b) = y (c.val * 256 + r.val)) :
    Best y (blockRows c.val) (k0_pay6 (F := Ideal) x (ix2 (0 : Fin 1) b)) (k0_pay7 (F := Ideal) (place c) x (ix2 (0 : Fin 1) b)) := by
  obtain ⟨hle, -⟩ := colTop_spec x b
  obtain ⟨r, hr, hx, hfirst⟩ := first_row x b
  rw [pay6_apply, pay7_apply, hr, place_toInt]
  refine ⟨c.val * 256 + r.val, ?_, ⟨Nat.le_add_right _ _, Nat.add_lt_add_left r.isLt _⟩, by rw [← h r, hx], ?_⟩
  · rw [← EReal.coe_mul, ← EReal.coe_add]
    refine congrArg (fun t : ℝ => (t : EReal)) ?_
    push_cast
    ring
  · rintro n ⟨h1, h2⟩
    have hs : x (ix2 (⟨n - c.val * 256, by omega⟩ : Fin 256) b) = y n :=
      (h _).trans (congrArg y (by show c.val * 256 + (n - c.val * 256) = n; omega))
    refine ⟨by rw [← hs]; exact hle _, fun e => ?_⟩
    have := Fin.le_def.mp (hfirst _ (hs.trans e))
    change r.val ≤ n - c.val * 256 at this
    omega

end Cert.RingArgmax

end
-- ==== Proof.Combine.lean ====
/-
The kernel's three combining steps over the extended reals: at a column, a device's result is the best value over the
whole array and the first row that attains it.
-/
module

public import proofs.«01_k».proof.Proof.Local

@[expose] public section

set_option maxRecDepth 16384

noncomputable section

namespace Cert.RingArgmax

open Cert.KernelIdeal Cert.KernelIdeal.Gen
open Idealize.ShloMosaic Idealize.ShloMosaic.TcCoe Idealize.ShloMosaic.ValueIdx

/-! ## One step -/

/-- The mask of one step: where the second pair of rows is taken. -/
abbrev takeMask (V E W D : FVec Ideal S1x256 .f32) : IVec S1x256 1 :=
  ori (cmpf .ogt W V) (andi (cmpf .oeq W V) (cmpf .olt D E))

theorem takeMask_one (V E W D : FVec Ideal S1x256 .f32) (j : S1x256.Idx) :
    (takeMask V E W D j = 1#1) = Takes (V j) (E j) (W j) (D j) := by
  change (IntOp.ori (Ideal.cmp .ogt (W j) (V j)) (IntOp.andi (Ideal.cmp .oeq (W j) (V j)) (Ideal.cmp .olt (D j) (E j))) = 1#1) = _
  rw [or_one, and_one, cmp_gt, cmp_eq, cmp_lt]
  rfl

open Classical in
theorem select_takes (V E W D A B : FVec Ideal S1x256 .f32) (j : S1x256.Idx) :
    select (takeMask V E W D) A B j = if Takes (V j) (E j) (W j) (D j) then A j else B j := by
  rw [select_apply, Scalar.select]
  exact if_congr (iff_of_eq (takeMask_one V E W D j)) rfl rfl

/-- One step keeps the best of the union. -/
theorem step_best (V E W D : FVec Ideal S1x256 .f32) (j : S1x256.Idx) (y : ℕ → EReal) (S T : Set ℕ)
    (h : Best y S (V j) (E j)) (h' : Best y T (W j) (D j)) :
    Best y (S ∪ T) (select (takeMask V E W D) W V j) (select (takeMask V E W D) D E j) := by
  rw [select_takes, select_takes]
  exact h.union h'

/-! ## The rows the steps read -/

variable (m : (ℓ : Loc nD τ sig) → Buf (Elt Ideal) ℓ) (c : Dev nD) (b : Fin 256)

theorem rows_zero {α : Type} (u w : S1x256.Idx → α) : rows u w (ix2 (0 : Fin 2) b) = u (ix2 (0 : Fin 1) b) := if_pos rfl
theorem rows_one {α : Type} (u w : S1x256.Idx → α) : rows u w (ix2 (1 : Fin 2) b) = w (ix2 (0 : Fin 1) b) := if_neg Nat.one_ne_zero

theorem stage_zero : stageF m c (ix2 (0 : Fin 2) b) = k0_pay6 (F := Ideal) (xF m c) (ix2 (0 : Fin 1) b) := rows_zero b _ _
theorem stage_one : stageF m c (ix2 (1 : Fin 2) b) = k0_pay7 (F := Ideal) (place c) (xF m c) (ix2 (0 : Fin 1) b) := rows_one b _ _

theorem readRow0 (f : S2x256.Idx → EReal) : sM.view.readAt (Elt Ideal) row0.toLoadRect f (ix2 (0 : Fin 1) b) = f (ix2 (0 : Fin 2) b) :=
  congrArg f (row0_emb b)
theorem readRow1 (f : S2x256.Idx → EReal) : sM.view.readAt (Elt Ideal) row1.toLoadRect f (ix2 (0 : Fin 1) b) = f (ix2 (1 : Fin 2) b) :=
  congrArg f (row1_emb b)

theorem stageRow0 : stageRow m c row0 (ix2 (0 : Fin 1) b) = stageF m c (ix2 (0 : Fin 2) b) := readRow0 b _
theorem stageRow1 : stageRow m c row1 (ix2 (0 : Fin 1) b) = stageF m c (ix2 (1 : Fin 2) b) := readRow1 b _

/-- The embedding of a row of a comm slot. -/
theorem slotRow_emb (k : Fin 4) (a : Fin 2) (h : ∀ d, (![k.val, a.val, 0] : Fin 3 → ℕ) d + S1x1x256.size d ≤ S4x2x256.size d) :
    (Rect.unit (s := S4x2x256) ![k.val, a.val, 0] S1x1x256.size h).emb (ix3 (0 : Fin 1) (0 : Fin 1) b) = ix3 k a b := by
  funext d
  apply Fin.ext
  rw [Rect.emb_apply]
  match d with
  | ⟨0, _⟩ => show k.val + 1 * 0 = k.val; omega
  | ⟨1, _⟩ => show a.val + 1 * 0 = a.val; omega
  | ⟨2, _⟩ => show 0 + 1 * b.val = b.val; omega

/-- A row of slot `k`, as a step casts it, read off whatever the comm buffer holds. -/
theorem castRow (f : S4x2x256.Idx → EReal) (k : Fin 4) (a : Fin 2)
    (h : ∀ d, (![k.val, a.val, 0] : Fin 3 → ℕ) d + S1x1x256.size d ≤ S4x2x256.size d) :
    shapeCast S1x256 (cM.view.readAt (Elt Ideal) (Rect.unit (s := S4x2x256) ![k.val, a.val, 0] S1x1x256.size h).toLoadRect f)
      shapeCasts_S1x1x256_S1x256 (ix2 (0 : Fin 1) b) = f (ix3 k a b) :=
  (shapeCast_1ab_ab_apply _ _ (0 : Fin 1) b).trans (congrArg f (slotRow_emb b k a h))

/-- Slot `k` holds the stage of the device `k` places on. -/
theorem slotRow (k : Fin 4) (a : Fin 2) : commF m c (ix3 k a b) = stageF m ⟨(c.val + k.val) % 4, Nat.mod_lt _ (by decide)⟩ (ix2 a b) := rfl

/-! ## The result -/

/-- The stage of a device, at a column of the whole array. -/
theorem stageF_best (y : ℕ → EReal) (h : ∀ (c : Dev nD) (r : Fin 256), xF m c (ix2 r b) = y (c.val * 256 + r.val)) :
    Best y (blockRows c.val) (stageF m c (ix2 (0 : Fin 2) b)) (stageF m c (ix2 (1 : Fin 2) b)) := by
  rw [stage_zero, stage_one]
  exact stage_best (xF m c) b c y (h c)

/-- The blocks of the four devices, from any one of them on, are the whole array. -/
theorem all_rows : (blockRows c.val ∪ blockRows ((c.val + 1) % 4) ∪ blockRows ((c.val + 2) % 4) ∪ blockRows ((c.val + 3) % 4))
    = {n | n < 1024} := by
  ext n
  have hc : c.val < 4 := c.isLt
  simp only [blockRows, Set.mem_union, Set.mem_setOf_eq]
  omega

abbrev firstMax : FVec Ideal S1x256 .f32 := k0_pay11 (stageRow m c row0) (stageRow m c row1) (commRow m c c10) (commRow m c c11)
abbrev firstRows : FVec Ideal S1x256 .f32 := k0_pay12 (stageRow m c row0) (stageRow m c row1) (commRow m c c10) (commRow m c c11)

variable (y : ℕ → EReal) (h : ∀ (c : Dev nD) (r : Fin 256), xF m c (ix2 r b) = y (c.val * 256 + r.val))
include h

theorem slot_best (k : Fin 4) (h0 : ∀ d, (![k.val, 0, 0] : Fin 3 → ℕ) d + S1x1x256.size d ≤ S4x2x256.size d)
    (h1 : ∀ d, (![k.val, 1, 0] : Fin 3 → ℕ) d + S1x1x256.size d ≤ S4x2x256.size d) :
    Best y (blockRows ((c.val + k.val) % 4))
      (shapeCast S1x256 (commRow m c (Rect.unit (s := S4x2x256) ![k.val, 0, 0] S1x1x256.size h0)) shapeCasts_S1x1x256_S1x256 (ix2 (0 : Fin 1) b))
      (shapeCast S1x256 (commRow m c (Rect.unit (s := S4x2x256) ![k.val, 1, 0] S1x1x256.size h1)) shapeCasts_S1x1x256_S1x256 (ix2 (0 : Fin 1) b)) := by
  have e0 := castRow b (commF m c) k 0 h0
  have e1 := castRow b (commF m c) k 1 h1
  have := stageF_best m ⟨(c.val + k.val) % 4, Nat.mod_lt _ (by decide)⟩ b y h
  rw [← slotRow, ← slotRow, ← e0, ← e1] at this
  exact this

theorem first_best : Best y (blockRows c.val ∪ blockRows ((c.val + 1) % 4)) (firstMax m c (ix2 (0 : Fin 1) b)) (firstRows m c (ix2 (0 : Fin 1) b)) := by
  refine step_best _ _ _ _ _ y _ _ ?_ (slot_best m c b y h 1 inb_S4x2x256_S1x1x256_1_0_0 inb_S4x2x256_S1x1x256_1_1_0)
  rw [stageRow0, stageRow1]
  exact stageF_best m c b y h

theorem run_best : Best y (blockRows c.val ∪ blockRows ((c.val + 1) % 4) ∪ blockRows ((c.val + 2) % 4))
    (runMax m c (ix2 (0 : Fin 1) b)) (runRow m c (ix2 (0 : Fin 1) b)) :=
  step_best (firstMax m c) (firstRows m c) _ _ _ y _ _ (first_best m c b y h)
    (slot_best m c b y h 2 inb_S4x2x256_S1x1x256_2_0_0 inb_S4x2x256_S1x1x256_2_1_0)

/-- A device's result, at a column. -/
theorem out_best : Best y {n | n < 1024} (outF m c (ix2 (0 : Fin 2) b)) (outF m c (ix2 (1 : Fin 2) b)) := by
  rw [← all_rows c]
  unfold outF
  rw [rows_zero, rows_one]
  exact step_best (runMax m c) (runRow m c) _ _ _ y _ _ (run_best m c b y h)
    (slot_best m c b y h 3 inb_S4x2x256_S1x1x256_3_0_0 inb_S4x2x256_S1x1x256_3_1_0)

end Cert.RingArgmax

end
-- ==== Proof.RefRun.lean ====
/-
The run of the one-device reference: its operations in order, and what its result array holds after them.
-/
module

public import proofs.«01_k».proof.Proof.Gen.ReferenceIdeal
public import Idealize.ShloMosaic.Lib.StableHlo.Run

@[expose] public section

set_option maxRecDepth 16384

noncomputable section

namespace Cert.RingArgmax.Ref

open Cert.ReferenceIdeal Cert.ReferenceIdeal.Gen
open Idealize.ShloMosaic Idealize.ShloMosaic.TcCoe Idealize.ShloMosaic.StableHlo Idealize.SL.Sem

variable {F : FTy → Type} [FloatOps F]

/-- Each column's greatest value. -/
def colMax (x : FVec F S1024x256 .f32) : FVec F S256 .f32 :=
  Host.reduce FloatOps.maximumf x (constant S_ .f32 0xFF800000#32) reducesTo_S1024x256_S256_d0 h_S_
/-- Each column's first row where it is attained. -/
def colRow (x : FVec F S1024x256 .f32) : IVec S256 32 := fun j =>
  (Host.argReduce reducer_argmax_f32_i32 x (iotaInDim S1024x256 32 0) (constant S_ .f32 0xFF800000#32) (constantI S_ 32 0#32)
    reducesTo_S1024x256_S256_d0 h_S_ j).2
/-- The result: the maxima over the rows. -/
def refOut (x : FVec F S1024x256 .f32) : FVec F S2x256 .f32 :=
  concatenate S2x256 0 [⟨S1x256, broadcastInDim S1x256 ![1] bcast_S256_S1x256_1 (colMax x)⟩,
    ⟨S1x256, broadcastInDim S1x256 ![1] bcast_S256_S1x256_1 (sitofp .f32 (colRow x) : FVec F S256 .f32)⟩] concatenates_S1x256_S1x256_S2x256_d0

/-- The program's operations, in order. -/
abbrev ops : List (HloOp τ sig (Elt F)) :=
  [ nullary main_call0_v0 (iotaInDim S1024x256 32 0),
    nullary main_call0_cst (constant S_ .f32 0xFF800000#32),
    nullary main_call0_c (constantI S_ 32 0#32),
    quaternary main_arg0 main_call0_v0 main_call0_cst main_call0_c main_call0_v1_0
      (fun x y u v j => (Host.argReduce reducer_argmax_f32_i32 x y u v reducesTo_S1024x256_S256_d0 h_S_ j).1),
    quaternary main_arg0 main_call0_v0 main_call0_cst main_call0_c main_v0
      (fun x y u v j => (Host.argReduce reducer_argmax_f32_i32 x y u v reducesTo_S1024x256_S256_d0 h_S_ j).2),
    unary main_v0 main_v1 (sitofp .f32 : (⟨S256, .i32⟩ : BufTy).Contents (Elt F) → (⟨S256, .f32⟩ : BufTy).Contents (Elt F)),
    nullary main_cst (constant S_ .f32 0xFF800000#32),
    binary main_arg0 main_cst main_v2 ((fun x v => Host.reduce FloatOps.maximumf x v reducesTo_S1024x256_S256_d0 h_S_)
      : (⟨S1024x256, .f32⟩ : BufTy).Contents (Elt F) → (⟨S_, .f32⟩ : BufTy).Contents (Elt F) → (⟨S256, .f32⟩ : BufTy).Contents (Elt F)),
    unary main_v2 main_v3 (broadcastInDim S1x256 ![1] bcast_S256_S1x256_1 : (⟨S256, .f32⟩ : BufTy).Contents (Elt F) → (⟨S1x256, .f32⟩ : BufTy).Contents (Elt F)),
    unary main_v1 main_v4 (broadcastInDim S1x256 ![1] bcast_S256_S1x256_1 : (⟨S256, .f32⟩ : BufTy).Contents (Elt F) → (⟨S1x256, .f32⟩ : BufTy).Contents (Elt F)),
    binary main_v3 main_v4 main_v5 ((fun a b => concatenate S2x256 0 [⟨S1x256, a⟩, ⟨S1x256, b⟩] concatenates_S1x256_S1x256_S2x256_d0)
      : (⟨S1x256, .f32⟩ : BufTy).Contents (Elt F) → (⟨S1x256, .f32⟩ : BufTy).Contents (Elt F) → (⟨S2x256, .f32⟩ : BufTy).Contents (Elt F)) ]

theorem main_eq (c : Dev nD) : main (F := F) c = seq ops := rfl

theorem out_eq (V : Valuation τ sig (Elt F)) : after ops V (main_v5 : DevRef τ sig) = refOut (V (main_arg0 : DevRef τ sig)) := by
  after_results
  rfl

theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., binary_bufs_sub ..⟩

/-- From any memory the program terminates with its result array at `refOut` of its argument, and the argument unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v5) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v5).trans (out_eq _), (h c main_arg0).trans (arg0_eq _)⟩)
    (run_seq scopedRefs_eq scopedSems_eq defs main (fun _ => ops) main_eq (fun _ => ops_sub) m ρ)

end Cert.RingArgmax.Ref

end
-- ==== Proof.RefValue.lean ====
/-
What the reference leaves over the extended reals: at a column, the best value over the whole array and the first row
that attains it.
-/
module

public import proofs.«01_k».proof.Proof.RefRun
public import proofs.«01_k».proof.Proof.Local
public import Idealize.ShloMosaic.PureOps.Ideal.Laws
public import Idealize.ShloMosaic.Lib.Pipeline.Value
public import Idealize.ShloMosaic.Lib.IdealHost

@[expose] public section

set_option maxRecDepth 16384

noncomputable section

namespace Cert.RingArgmax.Ref

open Cert.ReferenceIdeal Cert.ReferenceIdeal.Gen
open Idealize.ShloMosaic Idealize.ShloMosaic.ValueIdx

/-! ## The step of the search -/

/-- A pair of a value and a row is at least as good as another: its value is greater, or equal with no later a row. -/
def Good (p q : EReal × BitVec 32) : Prop := q.1 < p.1 ∨ (p.1 = q.1 ∧ p.2.toInt ≤ q.2.toInt)

theorem good_refl (p : EReal × BitVec 32) : Good p p := Or.inr ⟨rfl, le_refl _⟩
theorem good_trans (p q r : EReal × BitVec 32) (h : Good p q) (h' : Good q r) : Good p r := by
  rcases h with h | ⟨e, h⟩ <;> rcases h' with h' | ⟨e', h'⟩
  · exact Or.inl (h'.trans h)
  · exact Or.inl (by rw [← e']; exact h)
  · exact Or.inl (by rw [e]; exact h')
  · exact Or.inr ⟨e.trans e', h.trans h'⟩

theorem cmp_ne_self (a : EReal) : Ideal.cmp .une a a = 0#1 := by simp [Ideal.cmp]

theorem slt_one (a b : BitVec 32) : (IntOp.cmpi .slt a b = 1#1) = (a.toInt < b.toInt) := by
  by_cases h : a.toInt < b.toInt <;> simp [IntOp.cmpi, BitVec.slt, h]

open Classical in
theorem step_eq (p q : EReal × BitVec 32) :
    reducer_argmax_f32_i32 (F := Ideal) p q
      = (if q.1 < p.1 then p.1 else q.1, if q.1 < p.1 ∨ (p.1 = q.1 ∧ p.2.toInt < q.2.toInt) then p.2 else q.2) := by
  have h1 : (IntOp.ori (Ideal.cmp .ogt p.1 q.1) (Ideal.cmp .une p.1 p.1) = 1#1) = (q.1 < p.1) := by
    rw [or_one, cmp_gt, cmp_ne_self]; simp
  have h2 : (IntOp.ori (IntOp.ori (Ideal.cmp .ogt p.1 q.1) (Ideal.cmp .une p.1 p.1))
      (IntOp.andi (Ideal.cmp .oeq p.1 q.1) (IntOp.cmpi .slt p.2 q.2)) = 1#1) = (q.1 < p.1 ∨ (p.1 = q.1 ∧ p.2.toInt < q.2.toInt)) := by
    rw [or_one, h1, and_one, cmp_eq, slt_one]
  refine Prod.ext ?_ ?_
  · change Scalar.select (IntOp.ori (Ideal.cmp .ogt p.1 q.1) (Ideal.cmp .une p.1 p.1)) p.1 q.1 = _
    rw [Scalar.select]
    exact if_congr (iff_of_eq h1) rfl rfl
  · change Scalar.select (IntOp.ori (IntOp.ori (Ideal.cmp .ogt p.1 q.1) (Ideal.cmp .une p.1 p.1))
      (IntOp.andi (Ideal.cmp .oeq p.1 q.1) (IntOp.cmpi .slt p.2 q.2))) p.2 q.2 = _
    rw [Scalar.select]
    exact if_congr (iff_of_eq h2) rfl rfl

/-- The step keeps one of its two arguments, and the one it keeps is at least as good as both. -/
theorem step_good (p q : EReal × BitVec 32) :
    (reducer_argmax_f32_i32 (F := Ideal) p q = p ∨ reducer_argmax_f32_i32 (F := Ideal) p q = q)
      ∧ Good (reducer_argmax_f32_i32 (F := Ideal) p q) p ∧ Good (reducer_argmax_f32_i32 (F := Ideal) p q) q := by
  rw [step_eq]
  by_cases h : q.1 < p.1
  · rw [if_pos h, if_pos (Or.inl h)]
    exact ⟨Or.inl rfl, good_refl p, Or.inl h⟩
  · rw [if_neg h]
    by_cases h' : p.1 = q.1 ∧ p.2.toInt < q.2.toInt
    · rw [if_pos (Or.inr h'), ← h'.1]
      exact ⟨Or.inl rfl, good_refl p, Or.inr ⟨h'.1, h'.2.le⟩⟩
    · rw [if_neg (not_or.mpr ⟨h, h'⟩)]
      refine ⟨Or.inr rfl, ?_, good_refl q⟩
      rcases lt_or_eq_of_le (not_lt.mp h) with hlt | heq
      · exact Or.inl hlt
      · exact Or.inr ⟨heq.symm, not_lt.mp fun k => h' ⟨heq, k⟩⟩

/-! ## One column of the whole array -/

variable (x : S1024x256.Idx → EReal) (b : Fin 256)

/-- The array's indices in column `b`. -/
def wholeList : List S1024x256.Idx :=
  ((List.finRange S1024x256.numel).map S1024x256.rowMajor.symm).filter fun i => reducesTo_S1024x256_S256_d0.drop i = ix1 b

theorem mem_wholeList (i : S1024x256.Idx) : i ∈ wholeList b ↔ ∃ r : Fin 1024, i = ix2 r b := by
  simp only [wholeList, List.mem_filter, List.mem_map, List.mem_finRange, true_and, decide_eq_true_eq]
  constructor
  · rintro ⟨-, h⟩
    refine ⟨i 0, (eq_ix2 (n0 := 1024) (n1 := 256) i).trans (congrArg (ix2 (i 0)) (Fin.ext ?_))⟩
    have h1 := Shape.ReducesTo.drop_apply_val_of_eq reducesTo_S1024x256_S256_d0 i 0 1
    rw [h] at h1
    exact h1.symm
  · rintro ⟨r, rfl⟩
    refine ⟨⟨S1024x256.rowMajor (ix2 r b), Equiv.symm_apply_apply _ _⟩, ?_⟩
    funext d
    apply Fin.ext
    match d with
    | ⟨0, _⟩ => exact Shape.ReducesTo.drop_apply_val_of_eq reducesTo_S1024x256_S256_d0 (ix2 r b) 0 1

theorem ix2_mem_wholeList (r : Fin 1024) : (ix2 r b : S1024x256.Idx) ∈ wholeList b := (mem_wholeList b _).mpr ⟨r, rfl⟩

/-- The column's greatest value. -/
def wholeTop : EReal := (wholeList b).foldl (fun r i => max r (x i)) ⊥

theorem wholeTop_spec : (∀ r : Fin 1024, x (ix2 r b) ≤ wholeTop x b) ∧ ∃ r : Fin 1024, x (ix2 r b) = wholeTop x b := by
  obtain ⟨hall, i, hi, he⟩ := foldl_max x (wholeList b) (ix2 (0 : Fin 1024) b) (ix2_mem_wholeList b 0)
  obtain ⟨r, rfl⟩ := (mem_wholeList b i).mp hi
  exact ⟨fun r => hall _ (ix2_mem_wholeList b r), r, he⟩

theorem colMax_apply : colMax (F := Ideal) x (ix1 b) = wholeTop x b := by
  unfold colMax
  rw [Host.reduce_eq_foldl, constant_apply, neg_inf]
  rfl

/-- The pair the search carries away from an index. -/
def pairAt (i : S1024x256.Idx) : EReal × BitVec 32 := (x i, BitVec.ofNat 32 (i 0).val)

/-- What the search over the column ends at. -/
def found : EReal × BitVec 32 :=
  (wholeList b).foldl (fun r i => reducer_argmax_f32_i32 (F := Ideal) r (pairAt x i)) (⊥, 0#32)

/-- The list the search runs over, read as a list of indices. -/
theorem search_eq {α β γ : Type} (f : γ → γ → γ) (p : α → β) (g : β → γ) (P : β → Prop) [DecidablePred P] (l : List α) (a : γ) :
    ((l.filter fun n => P (p n)).map fun n => g (p n)).foldl f a = ((l.map p).filter fun i => P i).foldl (fun r i => f r (g i)) a := by
  rw [List.filter_map, List.foldl_map, List.foldl_map]
  rfl

theorem colRow_apply : colRow (F := Ideal) x (ix1 b) = (found x b).2 := by
  unfold colRow
  rw [Ideal.argReduce_eq_reduce2, Host.reduce2_eq_foldl_fiber, Host.argReduceFiber, constant_apply, constantI_apply,
    neg_inf]
  exact congrArg Prod.snd (search_eq (reducer_argmax_f32_i32 (F := Ideal)) S1024x256.rowMajor.symm (pairAt x)
    (fun i => reducesTo_S1024x256_S256_d0.drop i = ix1 b) (List.finRange S1024x256.numel) (⊥, 0#32))

/-- The search ends at the first row that attains the column's greatest value. -/
theorem found_spec : ∃ r : Fin 1024, (found x b).2.toInt = (r.val : ℤ) ∧ x (ix2 r b) = wholeTop x b
    ∧ ∀ s : Fin 1024, x (ix2 s b) = wholeTop x b → r ≤ s := by
  obtain ⟨hsel, -, hall⟩ := foldl_best Good good_refl good_trans (reducer_argmax_f32_i32 (F := Ideal)) step_good (pairAt x)
    (wholeList b) (⊥, 0#32)
  change found x b = _ ∨ ∃ n ∈ _, found x b = _ at hsel
  change ∀ n ∈ _, Good (found x b) _ at hall
  obtain ⟨hle, s₀, hs₀⟩ := wholeTop_spec x b
  have hrow : ∀ s : Fin 1024, (BitVec.ofNat 32 s.val).toInt = (s.val : ℤ) := fun s => toInt_row _ (by have := s.isLt; omega)
  have key : ∀ r : Fin 1024, (found x b).1 = x (ix2 r b) → (found x b).2 = BitVec.ofNat 32 r.val →
      ∃ r : Fin 1024, (found x b).2.toInt = (r.val : ℤ) ∧ x (ix2 r b) = wholeTop x b
        ∧ ∀ s : Fin 1024, x (ix2 s b) = wholeTop x b → r ≤ s := by
    intro r hv hw
    have htop : x (ix2 r b) = wholeTop x b := by
      refine le_antisymm (hle r) ?_
      rw [← hs₀, ← hv]
      rcases hall _ (ix2_mem_wholeList b s₀) with h | ⟨h, -⟩
      · exact h.le
      · exact h.ge
    refine ⟨r, by rw [hw, hrow], htop, fun s hs => ?_⟩
    rcases hall _ (ix2_mem_wholeList b s) with h | ⟨-, h⟩
    · rw [hv, htop] at h
      exact absurd h (by change ¬ x (ix2 s b) < _; rw [hs]; exact lt_irrefl _)
    · rw [hw, hrow] at h
      change (r.val : ℤ) ≤ (BitVec.ofNat 32 s.val).toInt at h
      rw [hrow] at h
      exact Fin.le_def.mpr (by omega)
  rcases hsel with h | ⟨i, hi, h⟩
  · refine key 0 ?_ (by rw [h]; rfl)
    rcases hall _ (ix2_mem_wholeList b 0) with h' | ⟨h', -⟩
    · rw [h] at h'; exact absurd h' not_lt_bot
    · exact h'
  · obtain ⟨r, rfl⟩ := (mem_wholeList b i).mp hi
    exact key r (by rw [h]; rfl) (by rw [h]; rfl)

/-! ## The result -/

/-- Column `b` of the whole array, by row number. -/
def column (n : ℕ) : EReal := if h : n < 1024 then x (ix2 (⟨n, h⟩ : Fin 1024) b) else ⊥

theorem column_row (r : Fin 1024) : column x b r.val = x (ix2 r b) := dif_pos r.isLt

theorem spread_apply (u : S256.Idx → EReal) : broadcastInDim S1x256 ![1] bcast_S256_S1x256_1 u (ix2 (0 : Fin 1) b) = u (ix1 b) :=
  broadcastInDim_apply _ _ _ _ _ fun a => match a with | ⟨0, _⟩ => by simp

theorem refOut_zero : refOut (F := Ideal) x (ix2 (0 : Fin 2) b) = wholeTop x b := by
  unfold refOut
  refine (concatenate_pair_apply_left (t := S2x256) (s₁ := S1x256) (s₂ := S1x256) 0 _ _ concatenates_S1x256_S1x256_S2x256_d0
    (ix2 (0 : Fin 2) b) rfl (ix2 (0 : Fin 1) b) (fun d => match d with | ⟨0, _⟩ => rfl | ⟨1, _⟩ => rfl)).trans ?_
  exact (spread_apply b _).trans (colMax_apply x b)

theorem refOut_one : refOut (F := Ideal) x (ix2 (1 : Fin 2) b) = (((found x b).2.toInt : ℝ) : EReal) := by
  unfold refOut
  refine (concatenate_pair_apply_right (t := S2x256) (s₁ := S1x256) (s₂ := S1x256) 0 _ _ concatenates_S1x256_S1x256_S2x256_d0
    (ix2 (1 : Fin 2) b) rfl rfl (ix2 (0 : Fin 1) b)
    (fun d => match d with | ⟨0, _⟩ => fun h => absurd rfl h | ⟨1, _⟩ => fun _ => rfl) rfl).trans ?_
  refine (spread_apply b _).trans ?_
  rw [sitofp_apply, colRow_apply]
  rfl

theorem ref_best : Best (column x b) {n | n < 1024} (refOut (F := Ideal) x (ix2 (0 : Fin 2) b)) (refOut (F := Ideal) x (ix2 (1 : Fin 2) b)) := by
  obtain ⟨hle, -⟩ := wholeTop_spec x b
  obtain ⟨r, hr, hx, hfirst⟩ := found_spec x b
  rw [refOut_zero, refOut_one, hr]
  refine ⟨r.val, by rw [Int.cast_natCast], r.isLt, (column_row x b r).trans hx, fun n hn => ?_⟩
  have hc := column_row x b ⟨n, hn⟩
  refine ⟨(le_of_eq hc).trans (hle _), fun e => ?_⟩
  exact Fin.le_def.mp (hfirst ⟨n, hn⟩ (hc.symm.trans e))

end Cert.RingArgmax.Ref

end
-- ==== Proof.Equal.lean ====
/-
The two programs' results over the extended reals are one array: column by column both hold the best value over the
whole array and the first row that attains it, of which there is only one pair.
-/
module

public import proofs.«01_k».proof.Proof.Combine
public import proofs.«01_k».proof.Proof.RefValue
public import Idealize.ShloMosaic.Lib.Layout

@[expose] public section

set_option maxRecDepth 16384

noncomputable section

namespace Cert.RingArgmax

open Idealize.ShloMosaic Idealize.ShloMosaic.TcCoe Idealize.ShloMosaic.ValueIdx

/-- An element of block `c` of the whole array, by its row in that array. -/
theorem block_row (x : (⟨2, ![1024, 256]⟩ : Shape).Idx → EReal) (c : Fin 4) (r b : Fin 256) :
    (Layout.block ⟨2, ![256, 256]⟩ ⟨2, ![1024, 256]⟩ 0 4 c x) (ix2 r b) = Ref.column x b (c.val * 256 + r.val) := by
  have hn : c.val * 256 + r.val < 1024 := by have := c.isLt; have := r.isLt; omega
  rw [Layout.block_apply]
  refine Eq.trans (congrArg x ?_) (Ref.column_row x b ⟨_, hn⟩).symm
  funext d
  apply Fin.ext
  rw [Layout.Tiles.idx_val]
  match d with
  | ⟨0, _⟩ => rfl
  | ⟨1, _⟩ => rfl

/-- Every device's result is the reference's, when the devices hold the blocks of the reference's argument. -/
theorem out_eq_ref (m : (ℓ : Loc Cert.KernelIdeal.nD Cert.KernelIdeal.τ Cert.KernelIdeal.sig) → Buf (Elt Ideal) ℓ)
    (x : (⟨2, ![1024, 256]⟩ : Shape).Idx → EReal)
    (hx : ∀ c : Dev Cert.KernelIdeal.nD, xF m c = Layout.block ⟨2, ![256, 256]⟩ ⟨2, ![1024, 256]⟩ 0 4 c x) (c : Dev Cert.KernelIdeal.nD) :
    outF m c = Ref.refOut (F := Ideal) x := by
  funext i
  obtain ⟨a, b, rfl⟩ : ∃ (a : Fin 2) (b : Fin 256), i = ix2 a b := ⟨i 0, i 1, eq_ix2 i⟩
  have h := (out_best m c b (Ref.column x b) fun c r => (congrFun (hx c) (ix2 r b)).trans (block_row x c r b)).unique (Ref.ref_best x b)
  match a with
  | 0 => exact h.1
  | 1 => exact h.2

end Cert.RingArgmax

end
-- ==== Proof.Same.lean ====
/-
The kernel as it is compiled and its idealization have one text, so over any floats they have one table of bodies.
-/
module

public import proofs.«01_k».proof.Proof.Gen.Kernel
public import proofs.«01_k».proof.Proof.Gen.KernelIdeal

@[expose] public section

set_option maxRecDepth 65536

noncomputable section

namespace Cert.RingArgmax

open Idealize.ShloMosaic Cert.Kernel.Gen Cert.KernelIdeal.Gen

variable {F : FTy → Type} [FloatOps F]

/-- One body. -/
theorem body_same : Cert.Kernel.cc0_body (F := F) = Cert.KernelIdeal.cc0_body (F := F) := rfl

/-- One table of kernel bodies: each label's row is that body on the same buffers. -/
theorem rows_same : Cert.Kernel.defs₀ (F := F) = Cert.KernelIdeal.defs₀ (F := F) :=
  congrArg (Defs.onTc (nD := Cert.KernelIdeal.nD) (τ := Cert.KernelIdeal.τ) (sig := Cert.KernelIdeal.sig) (Λ := Cert.KernelIdeal.Λ₀))
    (funext fun l => funext fun a => match l, a with
      | 0, (_, _) => rfl)

/-- One table with the pipeline around the body. -/
theorem defs_same : Cert.Kernel.defs (F := F) = Cert.KernelIdeal.defs (F := F) :=
  congrArg (Pipeline.defs (Cert.KernelIdeal.pcfgs (F := F))) rows_same

end Cert.RingArgmax

end
-- ==== Proof.lean ====
/-
The proof of `Cert.Claim`: the frames of the kernel at bit patterns and at extended reals, the frame of the
idealized reference, and the equality of the two programs' results over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Equal
public import proofs.«01_k».proof.Proof.Same
public import Idealize.ShloMosaic.Adequacy
public import Idealize.ShloMosaic.Init

@[expose] public section

set_option maxRecDepth 65536

noncomputable section

namespace Cert.Proof

open Idealize.ShloMosaic Idealize.SL.Sem Cert.Kernel

/-- The kernel over any floats. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono (fun _ h => ⟨fun c => (h.1 c).2, h.2⟩) (RingArgmax.run_main m ρ)

/-- The kernel as it is compiled: it has the idealized program's text, read at bit patterns. -/
theorem frame_kernel : Cert.quiescent_Kernel (hKernel := Cert.Kernel.Gen.facts) := fun m ρ _ => by
  have h := frame_any (F := Bits) m ρ
  rw [← RingArgmax.defs_same (F := Bits)] at h
  exact h

/-- The kernel over the extended reals. -/
theorem frame_kernel_ideal : Cert.quiescent_KernelIdeal (hKernelIdeal := Cert.KernelIdeal.Gen.facts) := fun m ρ _ =>
  frame_any (F := Ideal) m ρ

/-- The reference over the extended reals: it names no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (RingArgmax.Ref.run_main (F := Ideal) m ρ)

/-- Both programs end with one result. -/
theorem algebraic : Cert.algebraic_KernelIdeal_ReferenceIdeal (hKernelIdeal := Cert.KernelIdeal.Gen.facts)
    (hReferenceIdeal := Cert.ReferenceIdeal.Gen.facts) := fun m g m' g' _ hm =>
  ⟨RingArgmax.Ref.refOut (F := Ideal) (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans (RingArgmax.out_eq_ref m _ hm c), (h.1 c).2⟩)
      (RingArgmax.run_main (F := Ideal) m g),
    (θ_run Cert.ReferenceIdeal.defs _ _).mono (fun _ h => h 0) (RingArgmax.Ref.run_main (F := Ideal) m' g')⟩

/-- Everything the certificate claims. -/
theorem claim : Cert.Claim := ⟨Cert.Kernel.Gen.facts, Cert.KernelIdeal.Gen.facts, Cert.ReferenceIdeal.Gen.facts,
  frame_kernel, frame_kernel_ideal, frame_reference, trivial, algebraic⟩

end Cert.Proof

end
